-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2048 : Shape := ⟨2, ![16384, 2048]⟩
abbrev S2048x16 : Shape := ⟨2, ![2048, 16]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S16384x2048 .f32) (main_arg1 : FVec F S2048x16 .f32) : IVec S_ 1 :=
  let main_cst : FVec F S_ .f32 := constant S_ .f32 0xFF800000#32
  let main_v0 : FVec F S16384x2048 .f32 := broadcastInDim S16384x2048 ![] bcast_S_S16384x2048 main_cst
  let main_v1 : IVec S16384x2048 1 := cmpf .ogt main_arg0 main_v0
  let main_cst_0 : FVec F S_ .f32 := constant S_ .f32 0x7F800000#32
  let main_v2 : FVec F S16384x2048 .f32 := broadcastInDim S16384x2048 ![] bcast_S_S16384x2048 main_cst_0
  let main_v3 : IVec S16384x2048 1 := cmpf .olt main_arg0 main_v2
  let main_v4 : IVec S16384x2048 1 := andi main_v1 main_v3
  let main_c : IVec S_ 1 := constantI S_ 1 1#1
  let main_v5 : IVec S_ 1 := (fun x v => Host.reduce IntOp.andi x v reducesTo_S16384x2048_S_d0_1 h_S_) main_v4 main_c
  let main_cst_1 : FVec F S_ .f32 := constant S_ .f32 0xFF800000#32
  let main_v6 : FVec F S2048x16 .f32 := broadcastInDim S2048x16 ![] bcast_S_S2048x16 main_cst_1
  let main_v7 : IVec S2048x16 1 := cmpf .ogt main_arg1 main_v6
  let main_cst_2 : FVec F S_ .f32 := constant S_ .f32 0x7F800000#32
  let main_v8 : FVec F S2048x16 .f32 := broadcastInDim S2048x16 ![] bcast_S_S2048x16 main_cst_2
  let main_v9 : IVec S2048x16 1 := cmpf .olt main_arg1 main_v8
  let main_v10 : IVec S2048x16 1 := andi main_v7 main_v9
  let main_c_3 : IVec S_ 1 := constantI S_ 1 1#1
  let main_v11 : IVec S_ 1 := (fun x v => Host.reduce IntOp.andi x v reducesTo_S2048x16_S_d0_1 h_S_) main_v10 main_c_3
  let main_v12 : IVec S_ 1 := andi main_v5 main_v11
  main_v12
-- ==== Kernel.lean ====
abbrev S16384x2048 : Shape := ⟨2, ![16384, 2048]⟩
abbrev S2048x16 : Shape := ⟨2, ![2048, 16]⟩
abbrev S16384x2 : Shape := ⟨2, ![16384, 2]⟩
abbrev S8x512x2048 : Shape := ⟨3, ![8, 512, 2048]⟩
abbrev S8 : Shape := ⟨1, ![8]⟩
abbrev S2x512x2 : Shape := ⟨3, ![2, 512, 2]⟩
abbrev S2 : Shape := ⟨1, ![2]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S512x16 : Shape := ⟨2, ![512, 16]⟩
abbrev S512 : Shape := ⟨1, ![512]⟩
abbrev S512x1 : Shape := ⟨2, ![512, 1]⟩
abbrev S512x2 : Shape := ⟨2, ![512, 2]⟩
abbrev S1x512x2 : Shape := ⟨3, ![1, 512, 2]⟩

abbrev nBuf : Space → Nat
  | .hbm => 4
  | .vmem => 4
  | .smem => 0
  | _ => 0

abbrev bufTy : (tb : Table) → Fin (tcTables nBuf tb) → BufTy
  | .hbm, ⟨0, _⟩ => ⟨S16384x2048, .f32⟩
  | .hbm, ⟨1, _⟩ => ⟨S2048x16, .f32⟩
  | .hbm, ⟨2, _⟩ => ⟨S16384x2, .f32⟩
  | .hbm, ⟨3, _⟩ => ⟨S16384x2, .i32⟩
  | .local _ .vmem, ⟨0, _⟩ => ⟨S2048x16, .f32⟩
  | .local _ .vmem, ⟨1, _⟩ => ⟨S8x512x2048, .f32⟩
  | .local _ .vmem, ⟨2, _⟩ => ⟨S2x512x2, .f32⟩
  | .local _ .vmem, ⟨3, _⟩ => ⟨S2x512x2, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped4 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

def k0_off1 : Fin 1 → Nat :=
  let c0_i32_43_r0 : BitVec 32 := 0#32
  let c8_i32_r0 : BitVec 32 := 8#32
  let v46_r0 : BitVec 32 := Scalar.remui c0_i32_43_r0 c8_i32_r0
  ![v46_r0.toNat]
def k0_off2 : Fin 3 → Nat :=
  let c0_i32_43_r0 : BitVec 32 := 0#32
  let c8_i32_r0 : BitVec 32 := 8#32
  let v46_r0 : BitVec 32 := Scalar.remui c0_i32_43_r0 c8_i32_r0
  let c0_i32_44_r0 : BitVec 32 := 0#32
  let c0_i32_45_r0 : BitVec 32 := 0#32
  ![v46_r0.toNat, 0, 0]
def k0_cond1 : BitVec 1 :=
  let true_51_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_50_r0 : BitVec 32 := 0#32
  let v53_r0 : BitVec 1 := Scalar.cmpi .ne v10_r0 c0_i32_50_r0
  let v54_r0 : BitVec 1 := Scalar.andi true_51_r0 v53_r0
  let true_52_r0 : BitVec 1 := 1#1
  let v55_r0 : BitVec 1 := Scalar.andi v54_r0 true_52_r0
  let v56_r0 : BitVec 32 := Scalar.extui v55_r0
  let c0_i32_53_r0 : BitVec 32 := 0#32
  let v57_r0 : BitVec 1 := Scalar.cmpi .ne v56_r0 c0_i32_53_r0
  v57_r0

def k0_off3 : Fin 1 → Nat :=
  let c0_i32_48_r0 : BitVec 32 := 0#32
  let c1_i32_49_r0 : BitVec 32 := 1#32
  let v52_r0 : BitVec 32 := Scalar.addi c0_i32_48_r0 c1_i32_49_r0
  let c8_i32_143_r0 : BitVec 32 := 8#32
  let v161_r0 : BitVec 32 := Scalar.remui v52_r0 c8_i32_143_r0
  ![v161_r0.toNat]
def k0_off4 : Fin 3 → Nat :=
  let c0_i32_48_r0 : BitVec 32 := 0#32
  let c1_i32_49_r0 : BitVec 32 := 1#32
  let v52_r0 : BitVec 32 := Scalar.addi c0_i32_48_r0 c1_i32_49_r0
  let c8_i32_143_r0 : BitVec 32 := 8#32
  let v161_r0 : BitVec 32 := Scalar.remui v52_r0 c8_i32_143_r0
  let c0_i32_145_r0 : BitVec 32 := 0#32
  let c0_i32_146_r0 : BitVec 32 := 0#32
  ![v161_r0.toNat, 0, 0]
def k0_off5 : Fin 2 → Nat :=
  let c512_i32_144_r0 : BitVec 32 := 512#32
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let v162_r0 : BitVec 32 := Scalar.muli c512_i32_144_r0 v10_r0
  let c0_i32_147_r0 : BitVec 32 := 0#32
  ![v162_r0.toNat, 0]
def k0_cond2 : BitVec 1 :=
  let true_55_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_56_r0 : BitVec 1 := 1#1
  let v62_r0 : BitVec 1 := Scalar.andi v61_r0 true_56_r0
  let v63_r0 : BitVec 32 := Scalar.extui v62_r0
  let c0_i32_57_r0 : BitVec 32 := 0#32
  let v64_r0 : BitVec 1 := Scalar.cmpi .ne v63_r0 c0_i32_57_r0
  v64_r0

def k0_off6 : Fin 1 → Nat :=
  let true_51_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c8_i32_143_r0 : BitVec 32 := 8#32
  let v161_r0 : BitVec 32 := Scalar.remui v59_r0 c8_i32_143_r0
  ![v161_r0.toNat]
def k0_off7 : Fin 3 → Nat :=
  let true_51_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c0_i32_7_r0 : BitVec 32 := 0#32
  let v10_r0 : BitVec 32 := Scalar.addi v9_r0 c0_i32_7_r0
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c8_i32_143_r0 : BitVec 32 := 8#32
  let v161_r0 : BitVec 32 := Scalar.remui v59_r0 c8_i32_143_r0
  let c0_i32_145_r0 : BitVec 32 := 0#32
  let c0_i32_146_r0 : BitVec 32 := 0#32
  ![v161_r0.toNat, 0, 0]
def k0_off8 : Fin 2 → Nat :=
  let c512_i32_144_r0 : BitVec 32 := 512#32
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let v162_r0 : BitVec 32 := Scalar.muli c512_i32_144_r0 v15_r0
  let c0_i32_147_r0 : BitVec 32 := 0#32
  ![v162_r0.toNat, 0]
def k0_cond3 : BitVec 1 :=
  let true_59_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_60_r0 : BitVec 1 := 1#1
  let v69_r0 : BitVec 1 := Scalar.andi v68_r0 true_60_r0
  let v70_r0 : BitVec 32 := Scalar.extui v69_r0
  let c0_i32_61_r0 : BitVec 32 := 0#32
  let v71_r0 : BitVec 1 := Scalar.cmpi .ne v70_r0 c0_i32_61_r0
  v71_r0

def k0_off9 : Fin 1 → Nat :=
  let true_55_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c8_i32_143_r0 : BitVec 32 := 8#32
  let v161_r0 : BitVec 32 := Scalar.remui v66_r0 c8_i32_143_r0
  ![v161_r0.toNat]
def k0_off10 : Fin 3 → Nat :=
  let true_55_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c0_i32_12_r0 : BitVec 32 := 0#32
  let v15_r0 : BitVec 32 := Scalar.addi v14_r0 c0_i32_12_r0
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c8_i32_143_r0 : BitVec 32 := 8#32
  let v161_r0 : BitVec 32 := Scalar.remui v66_r0 c8_i32_143_r0
  let c0_i32_145_r0 : BitVec 32 := 0#32
  let c0_i32_146_r0 : BitVec 32 := 0#32
  ![v161_r0.toNat, 0, 0]
def k0_off11 : Fin 2 → Nat :=
  let c512_i32_144_r0 : BitVec 32 := 512#32
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let v162_r0 : BitVec 32 := Scalar.muli c512_i32_144_r0 v20_r0
  let c0_i32_147_r0 : BitVec 32 := 0#32
  ![v162_r0.toNat, 0]
def k0_cond4 : BitVec 1 :=
  let true_63_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let c0_i32_17_r0 : BitVec 32 := 0#32
  let v20_r0 : BitVec 32 := Scalar.addi v19_r0 c0_i32_17_r0
  let v74_r0 : BitVec 1 := Scalar.cmpi .ne v25_r0 v20_r0
  let v75_r0 : BitVec 1 := Scalar.andi true_63_r0 v74_r0
  let true_64_r0 : BitVec 1 := 1#1
  let v76_r0 : BitVec 1 := Scalar.andi v75_r0 true_64_r0
  let v77_r0 : BitVec 32 := Scalar.extui v76_r0
  let c0_i32_65_r0 : BitVec 32 := 0#32
  let v78_r0 : BitVec 1 := Scalar.cmpi .ne v77_r0 c0_i32_65_r0
  v78_r0

def k0_off12 : Fin 1 → Nat :=
  let true_59_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_55_r0 : BitVec 1 := 1#1
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c1_i32_62_r0 : BitVec 32 := 1#32
  let v72_r0 : BitVec 32 := Scalar.addi v66_r0 c1_i32_62_r0
  let v73_r0 : BitVec 32 := Scalar.select v68_r0 v72_r0 v66_r0
  let c8_i32_143_r0 : BitVec 32 := 8#32
  let v161_r0 : BitVec 32 := Scalar.remui v73_r0 c8_i32_143_r0
  ![v161_r0.toNat]
def k0_off13 : Fin 3 → Nat :=
  let true_59_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c0_i32_17_r0 : BitVec 32 := 0#32
  let v20_r0 : BitVec 32 := Scalar.addi v19_r0 c0_i32_17_r0
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_55_r0 : BitVec 1 := 1#1
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c1_i32_62_r0 : BitVec 32 := 1#32
  let v72_r0 : BitVec 32 := Scalar.addi v66_r0 c1_i32_62_r0
  let v73_r0 : BitVec 32 := Scalar.select v68_r0 v72_r0 v66_r0
  let c8_i32_143_r0 : BitVec 32 := 8#32
  let v161_r0 : BitVec 32 := Scalar.remui v73_r0 c8_i32_143_r0
  let c0_i32_145_r0 : BitVec 32 := 0#32
  let c0_i32_146_r0 : BitVec 32 := 0#32
  ![v161_r0.toNat, 0, 0]
def k0_off14 : Fin 2 → Nat :=
  let c512_i32_144_r0 : BitVec 32 := 512#32
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let v162_r0 : BitVec 32 := Scalar.muli c512_i32_144_r0 v25_r0
  let c0_i32_147_r0 : BitVec 32 := 0#32
  ![v162_r0.toNat, 0]
def k0_cond5 : BitVec 1 :=
  let true_67_r0 : BitVec 1 := 1#1
  let true_24_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c1_i32_23_r0 : BitVec 32 := 1#32
  let v26_r0 : BitVec 32 := Scalar.addi v24_r0 c1_i32_23_r0
  let v27_r0 : BitVec 32 := Scalar.select true_24_r0 v26_r0 v24_r0
  let c32_i32_25_r0 : BitVec 32 := 32#32
  let v28_r0 : BitVec 1 := Scalar.cmpi .eq v27_r0 c32_i32_25_r0
  let c0_i32_26_r0 : BitVec 32 := 0#32
  let v29_r0 : BitVec 32 := Scalar.select v28_r0 c0_i32_26_r0 v27_r0
  let c0_i32_27_r0 : BitVec 32 := 0#32
  let v30_r0 : BitVec 32 := Scalar.addi v29_r0 c0_i32_27_r0
  let c0_i32_22_r0 : BitVec 32 := 0#32
  let v25_r0 : BitVec 32 := Scalar.addi v24_r0 c0_i32_22_r0
  let v81_r0 : BitVec 1 := Scalar.cmpi .ne v30_r0 v25_r0
  let v82_r0 : BitVec 1 := Scalar.andi true_67_r0 v81_r0
  let true_68_r0 : BitVec 1 := 1#1
  let v83_r0 : BitVec 1 := Scalar.andi v82_r0 true_68_r0
  let v84_r0 : BitVec 32 := Scalar.extui v83_r0
  let c0_i32_69_r0 : BitVec 32 := 0#32
  let v85_r0 : BitVec 1 := Scalar.cmpi .ne v84_r0 c0_i32_69_r0
  v85_r0

def k0_off15 : Fin 1 → Nat :=
  let true_63_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let c0_i32_17_r0 : BitVec 32 := 0#32
  let v20_r0 : BitVec 32 := Scalar.addi v19_r0 c0_i32_17_r0
  let v74_r0 : BitVec 1 := Scalar.cmpi .ne v25_r0 v20_r0
  let v75_r0 : BitVec 1 := Scalar.andi true_63_r0 v74_r0
  let true_59_r0 : BitVec 1 := 1#1
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_55_r0 : BitVec 1 := 1#1
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c1_i32_62_r0 : BitVec 32 := 1#32
  let v72_r0 : BitVec 32 := Scalar.addi v66_r0 c1_i32_62_r0
  let v73_r0 : BitVec 32 := Scalar.select v68_r0 v72_r0 v66_r0
  let c1_i32_66_r0 : BitVec 32 := 1#32
  let v79_r0 : BitVec 32 := Scalar.addi v73_r0 c1_i32_66_r0
  let v80_r0 : BitVec 32 := Scalar.select v75_r0 v79_r0 v73_r0
  let c8_i32_143_r0 : BitVec 32 := 8#32
  let v161_r0 : BitVec 32 := Scalar.remui v80_r0 c8_i32_143_r0
  ![v161_r0.toNat]
def k0_off16 : Fin 3 → Nat :=
  let true_63_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c0_i32_22_r0 : BitVec 32 := 0#32
  let v25_r0 : BitVec 32 := Scalar.addi v24_r0 c0_i32_22_r0
  let c0_i32_17_r0 : BitVec 32 := 0#32
  let v20_r0 : BitVec 32 := Scalar.addi v19_r0 c0_i32_17_r0
  let v74_r0 : BitVec 1 := Scalar.cmpi .ne v25_r0 v20_r0
  let v75_r0 : BitVec 1 := Scalar.andi true_63_r0 v74_r0
  let true_59_r0 : BitVec 1 := 1#1
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_55_r0 : BitVec 1 := 1#1
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c1_i32_62_r0 : BitVec 32 := 1#32
  let v72_r0 : BitVec 32 := Scalar.addi v66_r0 c1_i32_62_r0
  let v73_r0 : BitVec 32 := Scalar.select v68_r0 v72_r0 v66_r0
  let c1_i32_66_r0 : BitVec 32 := 1#32
  let v79_r0 : BitVec 32 := Scalar.addi v73_r0 c1_i32_66_r0
  let v80_r0 : BitVec 32 := Scalar.select v75_r0 v79_r0 v73_r0
  let c8_i32_143_r0 : BitVec 32 := 8#32
  let v161_r0 : BitVec 32 := Scalar.remui v80_r0 c8_i32_143_r0
  let c0_i32_145_r0 : BitVec 32 := 0#32
  let c0_i32_146_r0 : BitVec 32 := 0#32
  ![v161_r0.toNat, 0, 0]
def k0_off17 : Fin 2 → Nat :=
  let c512_i32_144_r0 : BitVec 32 := 512#32
  let true_24_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c1_i32_23_r0 : BitVec 32 := 1#32
  let v26_r0 : BitVec 32 := Scalar.addi v24_r0 c1_i32_23_r0
  let v27_r0 : BitVec 32 := Scalar.select true_24_r0 v26_r0 v24_r0
  let c32_i32_25_r0 : BitVec 32 := 32#32
  let v28_r0 : BitVec 1 := Scalar.cmpi .eq v27_r0 c32_i32_25_r0
  let c0_i32_26_r0 : BitVec 32 := 0#32
  let v29_r0 : BitVec 32 := Scalar.select v28_r0 c0_i32_26_r0 v27_r0
  let c0_i32_27_r0 : BitVec 32 := 0#32
  let v30_r0 : BitVec 32 := Scalar.addi v29_r0 c0_i32_27_r0
  let v162_r0 : BitVec 32 := Scalar.muli c512_i32_144_r0 v30_r0
  let c0_i32_147_r0 : BitVec 32 := 0#32
  ![v162_r0.toNat, 0]
def k0_cond6 : BitVec 1 :=
  let true_71_r0 : BitVec 1 := 1#1
  let true_29_r0 : BitVec 1 := 1#1
  let true_24_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c1_i32_23_r0 : BitVec 32 := 1#32
  let v26_r0 : BitVec 32 := Scalar.addi v24_r0 c1_i32_23_r0
  let v27_r0 : BitVec 32 := Scalar.select true_24_r0 v26_r0 v24_r0
  let c32_i32_25_r0 : BitVec 32 := 32#32
  let v28_r0 : BitVec 1 := Scalar.cmpi .eq v27_r0 c32_i32_25_r0
  let c0_i32_26_r0 : BitVec 32 := 0#32
  let v29_r0 : BitVec 32 := Scalar.select v28_r0 c0_i32_26_r0 v27_r0
  let c1_i32_28_r0 : BitVec 32 := 1#32
  let v31_r0 : BitVec 32 := Scalar.addi v29_r0 c1_i32_28_r0
  let v32_r0 : BitVec 32 := Scalar.select true_29_r0 v31_r0 v29_r0
  let c32_i32_30_r0 : BitVec 32 := 32#32
  let v33_r0 : BitVec 1 := Scalar.cmpi .eq v32_r0 c32_i32_30_r0
  let c0_i32_31_r0 : BitVec 32 := 0#32
  let v34_r0 : BitVec 32 := Scalar.select v33_r0 c0_i32_31_r0 v32_r0
  let c0_i32_32_r0 : BitVec 32 := 0#32
  let v35_r0 : BitVec 32 := Scalar.addi v34_r0 c0_i32_32_r0
  let c0_i32_27_r0 : BitVec 32 := 0#32
  let v30_r0 : BitVec 32 := Scalar.addi v29_r0 c0_i32_27_r0
  let v88_r0 : BitVec 1 := Scalar.cmpi .ne v35_r0 v30_r0
  let v89_r0 : BitVec 1 := Scalar.andi true_71_r0 v88_r0
  let true_72_r0 : BitVec 1 := 1#1
  let v90_r0 : BitVec 1 := Scalar.andi v89_r0 true_72_r0
  let v91_r0 : BitVec 32 := Scalar.extui v90_r0
  let c0_i32_73_r0 : BitVec 32 := 0#32
  let v92_r0 : BitVec 1 := Scalar.cmpi .ne v91_r0 c0_i32_73_r0
  v92_r0

def k0_off18 : Fin 1 → Nat :=
  let true_67_r0 : BitVec 1 := 1#1
  let true_24_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c1_i32_23_r0 : BitVec 32 := 1#32
  let v26_r0 : BitVec 32 := Scalar.addi v24_r0 c1_i32_23_r0
  let v27_r0 : BitVec 32 := Scalar.select true_24_r0 v26_r0 v24_r0
  let c32_i32_25_r0 : BitVec 32 := 32#32
  let v28_r0 : BitVec 1 := Scalar.cmpi .eq v27_r0 c32_i32_25_r0
  let c0_i32_26_r0 : BitVec 32 := 0#32
  let v29_r0 : BitVec 32 := Scalar.select v28_r0 c0_i32_26_r0 v27_r0
  let c0_i32_27_r0 : BitVec 32 := 0#32
  let v30_r0 : BitVec 32 := Scalar.addi v29_r0 c0_i32_27_r0
  let c0_i32_22_r0 : BitVec 32 := 0#32
  let v25_r0 : BitVec 32 := Scalar.addi v24_r0 c0_i32_22_r0
  let v81_r0 : BitVec 1 := Scalar.cmpi .ne v30_r0 v25_r0
  let v82_r0 : BitVec 1 := Scalar.andi true_67_r0 v81_r0
  let true_63_r0 : BitVec 1 := 1#1
  let c0_i32_17_r0 : BitVec 32 := 0#32
  let v20_r0 : BitVec 32 := Scalar.addi v19_r0 c0_i32_17_r0
  let v74_r0 : BitVec 1 := Scalar.cmpi .ne v25_r0 v20_r0
  let v75_r0 : BitVec 1 := Scalar.andi true_63_r0 v74_r0
  let true_59_r0 : BitVec 1 := 1#1
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_55_r0 : BitVec 1 := 1#1
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c1_i32_62_r0 : BitVec 32 := 1#32
  let v72_r0 : BitVec 32 := Scalar.addi v66_r0 c1_i32_62_r0
  let v73_r0 : BitVec 32 := Scalar.select v68_r0 v72_r0 v66_r0
  let c1_i32_66_r0 : BitVec 32 := 1#32
  let v79_r0 : BitVec 32 := Scalar.addi v73_r0 c1_i32_66_r0
  let v80_r0 : BitVec 32 := Scalar.select v75_r0 v79_r0 v73_r0
  let c1_i32_70_r0 : BitVec 32 := 1#32
  let v86_r0 : BitVec 32 := Scalar.addi v80_r0 c1_i32_70_r0
  let v87_r0 : BitVec 32 := Scalar.select v82_r0 v86_r0 v80_r0
  let c8_i32_143_r0 : BitVec 32 := 8#32
  let v161_r0 : BitVec 32 := Scalar.remui v87_r0 c8_i32_143_r0
  ![v161_r0.toNat]
def k0_off19 : Fin 3 → Nat :=
  let true_67_r0 : BitVec 1 := 1#1
  let true_24_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c1_i32_23_r0 : BitVec 32 := 1#32
  let v26_r0 : BitVec 32 := Scalar.addi v24_r0 c1_i32_23_r0
  let v27_r0 : BitVec 32 := Scalar.select true_24_r0 v26_r0 v24_r0
  let c32_i32_25_r0 : BitVec 32 := 32#32
  let v28_r0 : BitVec 1 := Scalar.cmpi .eq v27_r0 c32_i32_25_r0
  let c0_i32_26_r0 : BitVec 32 := 0#32
  let v29_r0 : BitVec 32 := Scalar.select v28_r0 c0_i32_26_r0 v27_r0
  let c0_i32_27_r0 : BitVec 32 := 0#32
  let v30_r0 : BitVec 32 := Scalar.addi v29_r0 c0_i32_27_r0
  let c0_i32_22_r0 : BitVec 32 := 0#32
  let v25_r0 : BitVec 32 := Scalar.addi v24_r0 c0_i32_22_r0
  let v81_r0 : BitVec 1 := Scalar.cmpi .ne v30_r0 v25_r0
  let v82_r0 : BitVec 1 := Scalar.andi true_67_r0 v81_r0
  let true_63_r0 : BitVec 1 := 1#1
  let c0_i32_17_r0 : BitVec 32 := 0#32
  let v20_r0 : BitVec 32 := Scalar.addi v19_r0 c0_i32_17_r0
  let v74_r0 : BitVec 1 := Scalar.cmpi .ne v25_r0 v20_r0
  let v75_r0 : BitVec 1 := Scalar.andi true_63_r0 v74_r0
  let true_59_r0 : BitVec 1 := 1#1
  let c0_i32_12_r0 : BitVec 32 := 0#32
  let v15_r0 : BitVec 32 := Scalar.addi v14_r0 c0_i32_12_r0
  let v67_r0 : BitVec 1 := Scalar.cmpi .ne v20_r0 v15_r0
  let v68_r0 : BitVec 1 := Scalar.andi true_59_r0 v67_r0
  let true_55_r0 : BitVec 1 := 1#1
  let c0_i32_7_r0 : BitVec 32 := 0#32
  let v10_r0 : BitVec 32 := Scalar.addi v9_r0 c0_i32_7_r0
  let v60_r0 : BitVec 1 := Scalar.cmpi .ne v15_r0 v10_r0
  let v61_r0 : BitVec 1 := Scalar.andi true_55_r0 v60_r0
  let true_51_r0 : BitVec 1 := 1#1
  let c0_i32_50_r0 : BitVec 32 := 0#32
  let v53_r0 : BitVec 1 := Scalar.cmpi .ne v10_r0 c0_i32_50_r0
  let v54_r0 : BitVec 1 := Scalar.andi true_51_r0 v53_r0
  let c0_i32_48_r0 : BitVec 32 := 0#32
  let c1_i32_49_r0 : BitVec 32 := 1#32
  let v52_r0 : BitVec 32 := Scalar.addi c0_i32_48_r0 c1_i32_49_r0
  let c1_i32_54_r0 : BitVec 32 := 1#32
  let v58_r0 : BitVec 32 := Scalar.addi v52_r0 c1_i32_54_r0
  let v59_r0 : BitVec 32 := Scalar.select v54_r0 v58_r0 v52_r0
  let c1_i32_58_r0 : BitVec 32 := 1#32
  let v65_r0 : BitVec 32 := Scalar.addi v59_r0 c1_i32_58_r0
  let v66_r0 : BitVec 32 := Scalar.select v61_r0 v65_r0 v59_r0
  let c1_i32_62_r0 : BitVec 32 := 1#32
  let v72_r0 : BitVec 32 := Scalar.addi v66_r0 c1_i32_62_r0
  let v73_r0 : BitVec 32 := Scalar.select v68_r0 v72_r0 v66_r0
  let c1_i32_66_r0 : BitVec 32 := 1#32
  let v79_r0 : BitVec 32 := Scalar.addi v73_r0 c1_i32_66_r0
  let v80_r0 : BitVec 32 := Scalar.select v75_r0 v79_r0 v73_r0
  let c1_i32_70_r0 : BitVec 32 := 1#32
  let v86_r0 : BitVec 32 := Scalar.addi v80_r0 c1_i32_70_r0
  let v87_r0 : BitVec 32 := Scalar.select v82_r0 v86_r0 v80_r0
  let c8_i32_143_r0 : BitVec 32 := 8#32
  let v161_r0 : BitVec 32 := Scalar.remui v87_r0 c8_i32_143_r0
  let c0_i32_145_r0 : BitVec 32 := 0#32
  let c0_i32_146_r0 : BitVec 32 := 0#32
  ![v161_r0.toNat, 0, 0]
def k0_off20 : Fin 2 → Nat :=
  let c512_i32_144_r0 : BitVec 32 := 512#32
  let true_29_r0 : BitVec 1 := 1#1
  let true_24_r0 : BitVec 1 := 1#1
  let true_19_r0 : BitVec 1 := 1#1
  let true_14_r0 : BitVec 1 := 1#1
  let true_9_r0 : BitVec 1 := 1#1
  let true_4_r0 : BitVec 1 := 1#1
  let c1_i32_r0 : BitVec 32 := 1#32
  let c0_i32_5_r0 : BitVec 32 := 0#32
  let v7_r0 : BitVec 32 := Scalar.select true_4_r0 c1_i32_r0 c0_i32_5_r0
  let c32_i32_r0 : BitVec 32 := 32#32
  let v8_r0 : BitVec 1 := Scalar.cmpi .eq v7_r0 c32_i32_r0
  let c0_i32_6_r0 : BitVec 32 := 0#32
  let v9_r0 : BitVec 32 := Scalar.select v8_r0 c0_i32_6_r0 v7_r0
  let c1_i32_8_r0 : BitVec 32 := 1#32
  let v11_r0 : BitVec 32 := Scalar.addi v9_r0 c1_i32_8_r0
  let v12_r0 : BitVec 32 := Scalar.select true_9_r0 v11_r0 v9_r0
  let c32_i32_10_r0 : BitVec 32 := 32#32
  let v13_r0 : BitVec 1 := Scalar.cmpi .eq v12_r0 c32_i32_10_r0
  let c0_i32_11_r0 : BitVec 32 := 0#32
  let v14_r0 : BitVec 32 := Scalar.select v13_r0 c0_i32_11_r0 v12_r0
  let c1_i32_13_r0 : BitVec 32 := 1#32
  let v16_r0 : BitVec 32 := Scalar.addi v14_r0 c1_i32_13_r0
  let v17_r0 : BitVec 32 := Scalar.select true_14_r0 v16_r0 v14_r0
  let c32_i32_15_r0 : BitVec 32 := 32#32
  let v18_r0 : BitVec 1 := Scalar.cmpi .eq v17_r0 c32_i32_15_r0
  let c0_i32_16_r0 : BitVec 32 := 0#32
  let v19_r0 : BitVec 32 := Scalar.select v18_r0 c0_i32_16_r0 v17_r0
  let c1_i32_18_r0 : BitVec 32 := 1#32
  let v21_r0 : BitVec 32 := Scalar.addi v19_r0 c1_i32_18_r0
  let v22_r0 : BitVec 32 := Scalar.select true_19_r0 v21_r0 v19_r0
  let c32_i32_20_r0 : BitVec 32 := 32#32
  let v23_r0 : BitVec 1 := Scalar.cmpi .eq v22_r0 c32_i32_20_r0
  let c0_i32_21_r0 : BitVec 32 := 0#32
  let v24_r0 : BitVec 32 := Scalar.select v23_r0 c0_i32_21_r0 v22_r0
  let c1_i32_23_r0 : BitVec 32 := 1#32
  let v26_r0 : BitVec 32 := Scalar.addi v24_r0 c1_i32_23_r0
  let v27_r0 : BitVec 32 := Scalar.select true_24_r0 v26_r0 v24_r0
  let c32_i32_25_r0 : BitVec 32 := 32#32
  let v28_r0 : BitVec 1 := Scalar.cmpi .eq v27_r0 c32_i32_25_r0
  let c0_i32_26_r0 : BitVec 32 := 0#32
  let v29_r0 : BitVec 32 := Scalar.select v28_r0 c0_i32_26_r0 v27_r0
  let c1_i32_28_r0 : BitVec 32 := 1#32
  let v31_r0 : BitVec 32 := Scalar.addi v29_r0 c1_i32_28_r0
  let v32_r0 : BitVec 32 := Scalar.select true_29_r0 v31_r0 v29_r0
  let c32_i32_30_r0 : BitVec 32 := 32#32
  let v33_r0 : BitVec 1 := Scalar.cmpi .eq v32_r0 c32_i32_30_r0
  let c0_i32_31_r0 : BitVec 32 := 0#32
  let v34_r0 : BitVec 32 := Scalar.select v33_r0 c0_i32_31_r0 v32_r0
  let c0_i32_32_r0 : BitVec 32 := 0#32
  let v35_r0 : BitVec 32 := Scalar.addi v34_r0 c0_i32_32_r0
  let v162_r0 : BitVec 32 := Scalar.muli c512_i32_144_r0 v35_r0
  let c0_i32_147_r0 : BitVec 32 := 0#32
  ![v162_r0.toNat, 0]
@[reducible] def k0_t1_loop : Scf.Loop 32 :=
  let c0_i32_81_r0 : BitVec 32 := 0#32
  let c32_i32_82_r0 : BitVec 32 := 32#32
  let v95_r0 : BitVec 32 := Scalar.addi c0_i32_81_r0 c32_i32_82_r0
  let c1_i32_83_r0 : BitVec 32 := 1#32
  ⟨c0_i32_81_r0, v95_r0, c1_i32_83_r0⟩
def k0_off21 (arg5_r0 : BitVec 32) : Fin 1 → Nat :=
  let c8_i32_247_r0 : BitVec 32 := 8#32
  let v343_r0 : BitVec 32 := Scalar.remui arg5_r0 c8_i32_247_r0
  ![v343_r0.toNat]
def k0_cond7 (k0_t1 : Fin k0_t1_loop.trips) (arg11_r0 : BitVec 32) : BitVec 1 :=
  let true_177_r0 : BitVec 1 := 1#1
  let true_172_r0 : BitVec 1 := 1#1
  let true_167_r0 : BitVec 1 := 1#1
  let true_162_r0 : BitVec 1 := 1#1
  let true_157_r0 : BitVec 1 := 1#1
  let true_152_r0 : BitVec 1 := 1#1
  let c1_i32_151_r0 : BitVec 32 := 1#32
  let v169_r0 : BitVec 32 := Scalar.addi arg11_r0 c1_i32_151_r0
  let v170_r0 : BitVec 32 := Scalar.select true_152_r0 v169_r0 arg11_r0
  let c32_i32_153_r0 : BitVec 32 := 32#32
  let v171_r0 : BitVec 1 := Scalar.cmpi .eq v170_r0 c32_i32_153_r0
  let c0_i32_154_r0 : BitVec 32 := 0#32
  let v172_r0 : BitVec 32 := Scalar.select v171_r0 c0_i32_154_r0 v170_r0
  let c1_i32_156_r0 : BitVec 32 := 1#32
  let v174_r0 : BitVec 32 := Scalar.addi v172_r0 c1_i32_156_r0
  let v175_r0 : BitVec 32 := Scalar.select true_157_r0 v174_r0 v172_r0
  let c32_i32_158_r0 : BitVec 32 := 32#32
  let v176_r0 : BitVec 1 := Scalar.cmpi .eq v175_r0 c32_i32_158_r0
  let c0_i32_159_r0 : BitVec 32 := 0#32
  let v177_r0 : BitVec 32 := Scalar.select v176_r0 c0_i32_159_r0 v175_r0
  let c1_i32_161_r0 : BitVec 32 := 1#32
  let v179_r0 : BitVec 32 := Scalar.addi v177_r0 c1_i32_161_r0
  let v180_r0 : BitVec 32 := Scalar.select true_162_r0 v179_r0 v177_r0
  let c32_i32_163_r0 : BitVec 32 := 32#32
  let v181_r0 : BitVec 1 := Scalar.cmpi .eq v180_r0 c32_i32_163_r0
  let c0_i32_164_r0 : BitVec 32 := 0#32
  let v182_r0 : BitVec 32 := Scalar.select v181_r0 c0_i32_164_r0 v180_r0
  let c1_i32_166_r0 : BitVec 32 := 1#32
  let v184_r0 : BitVec 32 := Scalar.addi v182_r0 c1_i32_166_r0
  let v185_r0 : BitVec 32 := Scalar.select true_167_r0 v184_r0 v182_r0
  let c32_i32_168_r0 : BitVec 32 := 32#32
  let v186_r0 : BitVec 1 := Scalar.cmpi .eq v185_r0 c32_i32_168_r0
  let c0_i32_169_r0 : BitVec 32 := 0#32
  let v187_r0 : BitVec 32 := Scalar.select v186_r0 c0_i32_169_r0 v185_r0
  let c1_i32_171_r0 : BitVec 32 := 1#32
  let v189_r0 : BitVec 32 := Scalar.addi v187_r0 c1_i32_171_r0
  let v190_r0 : BitVec 32 := Scalar.select true_172_r0 v189_r0 v187_r0
  let c32_i32_173_r0 : BitVec 32 := 32#32
  let v191_r0 : BitVec 1 := Scalar.cmpi .eq v190_r0 c32_i32_173_r0
  let c0_i32_174_r0 : BitVec 32 := 0#32
  let v192_r0 : BitVec 32 := Scalar.select v191_r0 c0_i32_174_r0 v190_r0
  let c1_i32_176_r0 : BitVec 32 := 1#32
  let v194_r0 : BitVec 32 := Scalar.addi v192_r0 c1_i32_176_r0
  let v195_r0 : BitVec 32 := Scalar.select true_177_r0 v194_r0 v192_r0
  let c32_i32_178_r0 : BitVec 32 := 32#32
  let v196_r0 : BitVec 1 := Scalar.cmpi .eq v195_r0 c32_i32_178_r0
  let c0_i32_179_r0 : BitVec 32 := 0#32
  let v197_r0 : BitVec 32 := Scalar.select v196_r0 c0_i32_179_r0 v195_r0
  let c0_i32_180_r0 : BitVec 32 := 0#32
  let v198_r0 : BitVec 32 := Scalar.addi v197_r0 c0_i32_180_r0
  let true_182_r0 : BitVec 1 := 1#1
  let c1_i32_181_r0 : BitVec 32 := 1#32
  let v199_r0 : BitVec 32 := Scalar.addi v197_r0 c1_i32_181_r0
  let v200_r0 : BitVec 32 := Scalar.select true_182_r0 v199_r0 v197_r0
  let c32_i32_183_r0 : BitVec 32 := 32#32
  let v201_r0 : BitVec 1 := Scalar.cmpi .eq v200_r0 c32_i32_183_r0
  let c0_i32_184_r0 : BitVec 32 := 0#32
  let v202_r0 : BitVec 32 := Scalar.select v201_r0 c0_i32_184_r0 v200_r0
  let c0_i32_185_r0 : BitVec 32 := 0#32
  let v203_r0 : BitVec 32 := Scalar.addi v202_r0 c0_i32_185_r0
  let v209_r0 : BitVec 1 := Scalar.cmpi .ne v198_r0 v203_r0
  let c0_i32_81_r0 : BitVec 32 := 0#32
  let c1_i32_83_r0 : BitVec 32 := 1#32
  let arg4_r0 : BitVec 32 := Scf.iv c0_i32_81_r0 c1_i32_83_r0 k0_t1
  let c25_i32_r0 : BitVec 32 := 25#32
  let v210_r0 : BitVec 1 := Scalar.cmpi .sge arg4_r0 c25_i32_r0
  let true_191_r0 : BitVec 1 := 1#1
  let v211_r0 : BitVec 1 := Scalar.xori v210_r0 true_191_r0
  let v212_r0 : BitVec 1 := Scalar.andi v209_r0 v211_r0
  let true_192_r0 : BitVec 1 := 1#1
  let v213_r0 : BitVec 1 := Scalar.andi v212_r0 true_192_r0
  let v214_r0 : BitVec 32 := Scalar.extui v213_r0
  let c0_i32_193_r0 : BitVec 32 := 0#32
  let v215_r0 : BitVec 1 := Scalar.cmpi .ne v214_r0 c0_i32_193_r0
  v215_r0

def k0_off22 (arg5_r0 : BitVec 32) : Fin 3 → Nat :=
  let c8_i32_247_r0 : BitVec 32 := 8#32
  let v343_r0 : BitVec 32 := Scalar.remui arg5_r0 c8_i32_247_r0
  let c0_i32_249_r0 : BitVec 32 := 0#32
  let c0_i32_250_r0 : BitVec 32 := 0#32
  ![v343_r0.toNat, 0, 0]
def k0_off23 (arg11_r0 : BitVec 32) : Fin 2 → Nat :=
  let c512_i32_248_r0 : BitVec 32 := 512#32
  let true_182_r0 : BitVec 1 := 1#1
  let true_177_r0 : BitVec 1 := 1#1
  let true_172_r0 : BitVec 1 := 1#1
  let true_167_r0 : BitVec 1 := 1#1
  let true_162_r0 : BitVec 1 := 1#1
  let true_157_r0 : BitVec 1 := 1#1
  let true_152_r0 : BitVec 1 := 1#1
  let c1_i32_151_r0 : BitVec 32 := 1#32
  let v169_r0 : BitVec 32 := Scalar.addi arg11_r0 c1_i32_151_r0
  let v170_r0 : BitVec 32 := Scalar.select true_152_r0 v169_r0 arg11_r0
  let c32_i32_153_r0 : BitVec 32 := 32#32
  let v171_r0 : BitVec 1 := Scalar.cmpi .eq v170_r0 c32_i32_153_r0
  let c0_i32_154_r0 : BitVec 32 := 0#32
  let v172_r0 : BitVec 32 := Scalar.select v171_r0 c0_i32_154_r0 v170_r0
  let c1_i32_156_r0 : BitVec 32 := 1#32
  let v174_r0 : BitVec 32 := Scalar.addi v172_r0 c1_i32_156_r0
  let v175_r0 : BitVec 32 := Scalar.select true_157_r0 v174_r0 v172_r0
  let c32_i32_158_r0 : BitVec 32 := 32#32
  let v176_r0 : BitVec 1 := Scalar.cmpi .eq v175_r0 c32_i32_158_r0
  let c0_i32_159_r0 : BitVec 32 := 0#32
  let v177_r0 : BitVec 32 := Scalar.select v176_r0 c0_i32_159_r0 v175_r0
  let c1_i32_161_r0 : BitVec 32 := 1#32
  let v179_r0 : BitVec 32 := Scalar.addi v177_r0 c1_i32_161_r0
  let v180_r0 : BitVec 32 := Scalar.select true_162_r0 v179_r0 v177_r0
  let c32_i32_163_r0 : BitVec 32 := 32#32
  let v181_r0 : BitVec 1 := Scalar.cmpi .eq v180_r0 c32_i32_163_r0
  let c0_i32_164_r0 : BitVec 32 := 0#32
  let v182_r0 : BitVec 32 := Scalar.select v181_r0 c0_i32_164_r0 v180_r0
  let c1_i32_166_r0 : BitVec 32 := 1#32
  let v184_r0 : BitVec 32 := Scalar.addi v182_r0 c1_i32_166_r0
  let v185_r0 : BitVec 32 := Scalar.select true_167_r0 v184_r0 v182_r0
  let c32_i32_168_r0 : BitVec 32 := 32#32
  let v186_r0 : BitVec 1 := Scalar.cmpi .eq v185_r0 c32_i32_168_r0
  let c0_i32_169_r0 : BitVec 32 := 0#32
  let v187_r0 : BitVec 32 := Scalar.select v186_r0 c0_i32_169_r0 v185_r0
  let c1_i32_171_r0 : BitVec 32 := 1#32
  let v189_r0 : BitVec 32 := Scalar.addi v187_r0 c1_i32_171_r0
  let v190_r0 : BitVec 32 := Scalar.select true_172_r0 v189_r0 v187_r0
  let c32_i32_173_r0 : BitVec 32 := 32#32
  let v191_r0 : BitVec 1 := Scalar.cmpi .eq v190_r0 c32_i32_173_r0
  let c0_i32_174_r0 : BitVec 32 := 0#32
  let v192_r0 : BitVec 32 := Scalar.select v191_r0 c0_i32_174_r0 v190_r0
  let c1_i32_176_r0 : BitVec 32 := 1#32
  let v194_r0 : BitVec 32 := Scalar.addi v192_r0 c1_i32_176_r0
  let v195_r0 : BitVec 32 := Scalar.select true_177_r0 v194_r0 v192_r0
  let c32_i32_178_r0 : BitVec 32 := 32#32
  let v196_r0 : BitVec 1 := Scalar.cmpi .eq v195_r0 c32_i32_178_r0
  let c0_i32_179_r0 : BitVec 32 := 0#32
  let v197_r0 : BitVec 32 := Scalar.select v196_r0 c0_i32_179_r0 v195_r0
  let c1_i32_181_r0 : BitVec 32 := 1#32
  let v199_r0 : BitVec 32 := Scalar.addi v197_r0 c1_i32_181_r0
  let v200_r0 : BitVec 32 := Scalar.select true_182_r0 v199_r0 v197_r0
  let c32_i32_183_r0 : BitVec 32 := 32#32
  let v201_r0 : BitVec 1 := Scalar.cmpi .eq v200_r0 c32_i32_183_r0
  let c0_i32_184_r0 : BitVec 32 := 0#32
  let v202_r0 : BitVec 32 := Scalar.select v201_r0 c0_i32_184_r0 v200_r0
  let c0_i32_185_r0 : BitVec 32 := 0#32
  let v203_r0 : BitVec 32 := Scalar.addi v202_r0 c0_i32_185_r0
  let v344_r0 : BitVec 32 := Scalar.muli c512_i32_248_r0 v203_r0
  let c0_i32_251_r0 : BitVec 32 := 0#32
  ![v344_r0.toNat, 0]
def k0_off24 (arg6_r0 : BitVec 32) : Fin 1 → Nat :=
  let c8_i32_248_r0 : BitVec 32 := 8#32
  let v344_r0 : BitVec 32 := Scalar.remui arg6_r0 c8_i32_248_r0
  ![v344_r0.toNat]
def k0_cond8 (k0_t1 : Fin k0_t1_loop.trips) (arg11_r0 : BitVec 32) : BitVec 1 :=
  let c0_i32_145_r0 : BitVec 32 := 0#32
  let v163_r0 : BitVec 32 := Scalar.addi arg11_r0 c0_i32_145_r0
  let true_147_r0 : BitVec 1 := 1#1
  let c1_i32_146_r0 : BitVec 32 := 1#32
  let v164_r0 : BitVec 32 := Scalar.subi arg11_r0 c1_i32_146_r0
  let v165_r0 : BitVec 32 := Scalar.select true_147_r0 v164_r0 arg11_r0
  let c_m1_i32_148_r0 : BitVec 32 := 4294967295#32
  let v166_r0 : BitVec 1 := Scalar.cmpi .eq v165_r0 c_m1_i32_148_r0
  let c31_i32_149_r0 : BitVec 32 := 31#32
  let v167_r0 : BitVec 32 := Scalar.select v166_r0 c31_i32_149_r0 v165_r0
  let c0_i32_150_r0 : BitVec 32 := 0#32
  let v168_r0 : BitVec 32 := Scalar.addi v167_r0 c0_i32_150_r0
  let v227_r0 : BitVec 1 := Scalar.cmpi .ne v163_r0 v168_r0
  let c0_i32_81_r0 : BitVec 32 := 0#32
  let c1_i32_83_r0 : BitVec 32 := 1#32
  let arg4_r0 : BitVec 32 := Scf.iv c0_i32_81_r0 c1_i32_83_r0 k0_t1
  let c0_i32_143_r0 : BitVec 32 := 0#32
  let v161_r0 : BitVec 1 := Scalar.cmpi .eq arg4_r0 c0_i32_143_r0
  let v228_r0 : BitVec 1 := Scalar.ori v227_r0 v161_r0
  let c0_i32_200_r0 : BitVec 32 := 0#32
  let v229_r0 : BitVec 1 := Scalar.cmpi .sge arg4_r0 c0_i32_200_r0
  let v230_r0 : BitVec 1 := Scalar.andi v228_r0 v229_r0
  let v231_r0 : BitVec 32 := Scalar.extui v230_r0
  let c0_i32_201_r0 : BitVec 32 := 0#32
  let v232_r0 : BitVec 1 := Scalar.cmpi .ne v231_r0 c0_i32_201_r0
  v232_r0

def k0_off25 (arg6_r0 : BitVec 32) : Fin 3 → Nat :=
  let c8_i32_248_r0 : BitVec 32 := 8#32
  let v344_r0 : BitVec 32 := Scalar.remui arg6_r0 c8_i32_248_r0
  let c0_i32_249_r0 : BitVec 32 := 0#32
  let c0_i32_250_r0 : BitVec 32 := 0#32
  ![v344_r0.toNat, 0, 0]
def k0_off26 (arg11_r0 : BitVec 32) : Fin 2 → Nat :=
  let c512_i32_247_r0 : BitVec 32 := 512#32
  let c0_i32_145_r0 : BitVec 32 := 0#32
  let v163_r0 : BitVec 32 := Scalar.addi arg11_r0 c0_i32_145_r0
  let v343_r0 : BitVec 32 := Scalar.muli c512_i32_247_r0 v163_r0
  let c0_i32_251_r0 : BitVec 32 := 0#32
  ![v343_r0.toNat, 0]
def k0_off27 (arg6_r0 : BitVec 32) : Fin 3 → Nat :=
  let c8_i32_206_r0 : BitVec 32 := 8#32
  let v245_r0 : BitVec 32 := Scalar.remui arg6_r0 c8_i32_206_r0
  let v248_r0 : Index := Scalar.indexCast v245_r0
  let c0_r0 : Index := 0#32
  let c0_209_r0 : Index := 0#32
  ![v248_r0.toNat, 0, 0]

def k0_chk2 (arg6_r0 : BitVec 32) : Prop :=
  (∀ a, (k0_off27 arg6_r0) a + S1x512x2048.size a ≤ S8x512x2048.size a)
theorem k0_off27_inb : ∀ (arg6_r0 : BitVec 32) (k0_hw2 : k0_chk2 arg6_r0), ∀ a, (k0_off27 arg6_r0) a + S1x512x2048.size a ≤ S8x512x2048.size a := fun arg6_r0 k0_hw2 => k0_hw2

def k0_off28 (arg7_r0 : BitVec 32) : Fin 3 → Nat :=
  let c2_i32_207_r0 : BitVec 32 := 2#32
  let v246_r0 : BitVec 32 := Scalar.remui arg7_r0 c2_i32_207_r0
  let v285_r0 : Index := Scalar.indexCast v246_r0
  let c0_220_r0 : Index := 0#32
  let c0_221_r0 : Index := 0#32
  ![v285_r0.toNat, 0, 0]

def k0_chk3 (arg7_r0 : BitVec 32) : Prop :=
  (∀ a, (k0_off28 arg7_r0) a + S1x512x2.size a ≤ S2x512x2.size a)
theorem k0_off28_inb : ∀ (arg7_r0 : BitVec 32) (k0_hw3 : k0_chk3 arg7_r0), ∀ a, (k0_off28 arg7_r0) a + S1x512x2.size a ≤ S2x512x2.size a := fun arg7_r0 k0_hw3 => k0_hw3

def k0_off29 (arg9_r0 : BitVec 32) : Fin 3 → Nat :=
  let c2_i32_208_r0 : BitVec 32 := 2#32
  let v247_r0 : BitVec 32 := Scalar.remui arg9_r0 c2_i32_208_r0
  let v290_r0 : Index := Scalar.indexCast v247_r0
  let c0_222_r0 : Index := 0#32
  let c0_223_r0 : Index := 0#32
  ![v290_r0.toNat, 0, 0]

def k0_chk4 (arg9_r0 : BitVec 32) : Prop :=
  (∀ a, (k0_off29 arg9_r0) a + S1x512x2.size a ≤ S2x512x2.size a)
theorem k0_off29_inb : ∀ (arg9_r0 : BitVec 32) (k0_hw4 : k0_chk4 arg9_r0), ∀ a, (k0_off29 arg9_r0) a + S1x512x2.size a ≤ S2x512x2.size a := fun arg9_r0 k0_hw4 => k0_hw4

def k0_off30 (arg7_r0 : BitVec 32) : Fin 1 → Nat :=
  let c2_i32_247_r0 : BitVec 32 := 2#32
  let v343_r0 : BitVec 32 := Scalar.remui arg7_r0 c2_i32_247_r0
  ![v343_r0.toNat]
def k0_cond12 (k0_t1 : Fin k0_t1_loop.trips) (arg11_r0 : BitVec 32) : BitVec 1 :=
  let c0_i32_145_r0 : BitVec 32 := 0#32
  let v163_r0 : BitVec 32 := Scalar.addi arg11_r0 c0_i32_145_r0
  let true_152_r0 : BitVec 1 := 1#1
  let c1_i32_151_r0 : BitVec 32 := 1#32
  let v169_r0 : BitVec 32 := Scalar.addi arg11_r0 c1_i32_151_r0
  let v170_r0 : BitVec 32 := Scalar.select true_152_r0 v169_r0 arg11_r0
  let c32_i32_153_r0 : BitVec 32 := 32#32
  let v171_r0 : BitVec 1 := Scalar.cmpi .eq v170_r0 c32_i32_153_r0
  let c0_i32_154_r0 : BitVec 32 := 0#32
  let v172_r0 : BitVec 32 := Scalar.select v171_r0 c0_i32_154_r0 v170_r0
  let c0_i32_155_r0 : BitVec 32 := 0#32
  let v173_r0 : BitVec 32 := Scalar.addi v172_r0 c0_i32_155_r0
  let v299_r0 : BitVec 1 := Scalar.cmpi .ne v163_r0 v173_r0
  let c0_i32_81_r0 : BitVec 32 := 0#32
  let c1_i32_83_r0 : BitVec 32 := 1#32
  let arg4_r0 : BitVec 32 := Scf.iv c0_i32_81_r0 c1_i32_83_r0 k0_t1
  let c31_i32_144_r0 : BitVec 32 := 31#32
  let v162_r0 : BitVec 1 := Scalar.cmpi .eq arg4_r0 c31_i32_144_r0
  let v300_r0 : BitVec 1 := Scalar.ori v299_r0 v162_r0
  let v301_r0 : BitVec 32 := Scalar.extui v300_r0
  let c0_i32_225_r0 : BitVec 32 := 0#32
  let v302_r0 : BitVec 1 := Scalar.cmpi .ne v301_r0 c0_i32_225_r0
  v302_r0

def k0_off31 (arg11_r0 : BitVec 32) : Fin 2 → Nat :=
  let c512_i32_248_r0 : BitVec 32 := 512#32
  let c0_i32_145_r0 : BitVec 32 := 0#32
  let v163_r0 : BitVec 32 := Scalar.addi arg11_r0 c0_i32_145_r0
  let v344_r0 : BitVec 32 := Scalar.muli c512_i32_248_r0 v163_r0
  let c0_i32_249_r0 : BitVec 32 := 0#32
  ![v344_r0.toNat, 0]
def k0_off32 (arg7_r0 : BitVec 32) : Fin 3 → Nat :=
  let c2_i32_247_r0 : BitVec 32 := 2#32
  let v343_r0 : BitVec 32 := Scalar.remui arg7_r0 c2_i32_247_r0
  let c0_i32_250_r0 : BitVec 32 := 0#32
  let c0_i32_251_r0 : BitVec 32 := 0#32
  ![v343_r0.toNat, 0, 0]
def k0_off33 (arg9_r0 : BitVec 32) : Fin 1 → Nat :=
  let c2_i32_247_r0 : BitVec 32 := 2#32
  let v343_r0 : BitVec 32 := Scalar.remui arg9_r0 c2_i32_247_r0
  ![v343_r0.toNat]
def k0_cond13 (k0_t1 : Fin k0_t1_loop.trips) (arg11_r0 : BitVec 32) : BitVec 1 :=
  let c0_i32_145_r0 : BitVec 32 := 0#32
  let v163_r0 : BitVec 32 := Scalar.addi arg11_r0 c0_i32_145_r0
  let true_152_r0 : BitVec 1 := 1#1
  let c1_i32_151_r0 : BitVec 32 := 1#32
  let v169_r0 : BitVec 32 := Scalar.addi arg11_r0 c1_i32_151_r0
  let v170_r0 : BitVec 32 := Scalar.select true_152_r0 v169_r0 arg11_r0
  let c32_i32_153_r0 : BitVec 32 := 32#32
  let v171_r0 : BitVec 1 := Scalar.cmpi .eq v170_r0 c32_i32_153_r0
  let c0_i32_154_r0 : BitVec 32 := 0#32
  let v172_r0 : BitVec 32 := Scalar.select v171_r0 c0_i32_154_r0 v170_r0
  let c0_i32_155_r0 : BitVec 32 := 0#32
  let v173_r0 : BitVec 32 := Scalar.addi v172_r0 c0_i32_155_r0
  let v306_r0 : BitVec 1 := Scalar.cmpi .ne v163_r0 v173_r0
  let c0_i32_81_r0 : BitVec 32 := 0#32
  let c1_i32_83_r0 : BitVec 32 := 1#32
  let arg4_r0 : BitVec 32 := Scf.iv c0_i32_81_r0 c1_i32_83_r0 k0_t1
  let c31_i32_144_r0 : BitVec 32 := 31#32
  let v162_r0 : BitVec 1 := Scalar.cmpi .eq arg4_r0 c31_i32_144_r0
  let v307_r0 : BitVec 1 := Scalar.ori v306_r0 v162_r0
  let v308_r0 : BitVec 32 := Scalar.extui v307_r0
  let c0_i32_228_r0 : BitVec 32 := 0#32
  let v309_r0 : BitVec 1 := Scalar.cmpi .ne v308_r0 c0_i32_228_r0
  v309_r0

def k0_off34 (arg11_r0 : BitVec 32) : Fin 2 → Nat :=
  let c512_i32_248_r0 : BitVec 32 := 512#32
  let c0_i32_145_r0 : BitVec 32 := 0#32
  let v163_r0 : BitVec 32 := Scalar.addi arg11_r0 c0_i32_145_r0
  let v344_r0 : BitVec 32 := Scalar.muli c512_i32_248_r0 v163_r0
  let c0_i32_249_r0 : BitVec 32 := 0#32
  ![v344_r0.toNat, 0]
def k0_off35 (arg9_r0 : BitVec 32) : Fin 3 → Nat :=
  let c2_i32_247_r0 : BitVec 32 := 2#32
  let v343_r0 : BitVec 32 := Scalar.remui arg9_r0 c2_i32_247_r0
  let c0_i32_250_r0 : BitVec 32 := 0#32
  let c0_i32_251_r0 : BitVec 32 := 0#32
  ![v343_r0.toNat, 0, 0]
def k0_off36 (arg8_r0 : BitVec 32) : Fin 1 → Nat :=
  let c2_i32_247_r0 : BitVec 32 := 2#32
  let v343_r0 : BitVec 32 := Scalar.remui arg8_r0 c2_i32_247_r0
  ![v343_r0.toNat]
def k0_cond15 (k0_t1 : Fin k0_t1_loop.trips) (arg11_r0 : BitVec 32) : BitVec 1 :=
  let c0_i32_145_r0 : BitVec 32 := 0#32
  let v163_r0 : BitVec 32 := Scalar.addi arg11_r0 c0_i32_145_r0
  let true_147_r0 : BitVec 1 := 1#1
  let c1_i32_146_r0 : BitVec 32 := 1#32
  let v164_r0 : BitVec 32 := Scalar.subi arg11_r0 c1_i32_146_r0
  let v165_r0 : BitVec 32 := Scalar.select true_147_r0 v164_r0 arg11_r0
  let c_m1_i32_148_r0 : BitVec 32 := 4294967295#32
  let v166_r0 : BitVec 1 := Scalar.cmpi .eq v165_r0 c_m1_i32_148_r0
  let c31_i32_149_r0 : BitVec 32 := 31#32
  let v167_r0 : BitVec 32 := Scalar.select v166_r0 c31_i32_149_r0 v165_r0
  let c0_i32_150_r0 : BitVec 32 := 0#32
  let v168_r0 : BitVec 32 := Scalar.addi v167_r0 c0_i32_150_r0
  let v319_r0 : BitVec 1 := Scalar.cmpi .ne v163_r0 v168_r0
  let c0_i32_81_r0 : BitVec 32 := 0#32
  let c1_i32_83_r0 : BitVec 32 := 1#32
  let arg4_r0 : BitVec 32 := Scf.iv c0_i32_81_r0 c1_i32_83_r0 k0_t1
  let c0_i32_143_r0 : BitVec 32 := 0#32
  let v161_r0 : BitVec 1 := Scalar.cmpi .eq arg4_r0 c0_i32_143_r0
  let true_234_r0 : BitVec 1 := 1#1
  let v320_r0 : BitVec 1 := Scalar.xori v161_r0 true_234_r0
  let v321_r0 : BitVec 1 := Scalar.andi v319_r0 v320_r0
  let v322_r0 : BitVec 32 := Scalar.extui v321_r0
  let c0_i32_235_r0 : BitVec 32 := 0#32
  let v323_r0 : BitVec 1 := Scalar.cmpi .ne v322_r0 c0_i32_235_r0
  v323_r0

def k0_off37 (arg11_r0 : BitVec 32) : Fin 2 → Nat :=
  let c512_i32_248_r0 : BitVec 32 := 512#32
  let true_147_r0 : BitVec 1 := 1#1
  let c1_i32_146_r0 : BitVec 32 := 1#32
  let v164_r0 : BitVec 32 := Scalar.subi arg11_r0 c1_i32_146_r0
  let v165_r0 : BitVec 32 := Scalar.select true_147_r0 v164_r0 arg11_r0
  let c_m1_i32_148_r0 : BitVec 32 := 4294967295#32
  let v166_r0 : BitVec 1 := Scalar.cmpi .eq v165_r0 c_m1_i32_148_r0
  let c31_i32_149_r0 : BitVec 32 := 31#32
  let v167_r0 : BitVec 32 := Scalar.select v166_r0 c31_i32_149_r0 v165_r0
  let c0_i32_150_r0 : BitVec 32 := 0#32
  let v168_r0 : BitVec 32 := Scalar.addi v167_r0 c0_i32_150_r0
  let v344_r0 : BitVec 32 := Scalar.muli c512_i32_248_r0 v168_r0
  let c0_i32_249_r0 : BitVec 32 := 0#32
  ![v344_r0.toNat, 0]
def k0_off38 (arg8_r0 : BitVec 32) : Fin 3 → Nat :=
  let c2_i32_247_r0 : BitVec 32 := 2#32
  let v343_r0 : BitVec 32 := Scalar.remui arg8_r0 c2_i32_247_r0
  let c0_i32_250_r0 : BitVec 32 := 0#32
  let c0_i32_251_r0 : BitVec 32 := 0#32
  ![v343_r0.toNat, 0, 0]
def k0_off39 (arg10_r0 : BitVec 32) : Fin 1 → Nat :=
  let c2_i32_247_r0 : BitVec 32 := 2#32
  let v343_r0 : BitVec 32 := Scalar.remui arg10_r0 c2_i32_247_r0
  ![v343_r0.toNat]
def k0_cond16 (k0_t1 : Fin k0_t1_loop.trips) (arg11_r0 : BitVec 32) : BitVec 1 :=
  let c0_i32_145_r0 : BitVec 32 := 0#32
  let v163_r0 : BitVec 32 := Scalar.addi arg11_r0 c0_i32_145_r0
  let true_147_r0 : BitVec 1 := 1#1
  let c1_i32_146_r0 : BitVec 32 := 1#32
  let v164_r0 : BitVec 32 := Scalar.subi arg11_r0 c1_i32_146_r0
  let v165_r0 : BitVec 32 := Scalar.select true_147_r0 v164_r0 arg11_r0
  let c_m1_i32_148_r0 : BitVec 32 := 4294967295#32
  let v166_r0 : BitVec 1 := Scalar.cmpi .eq v165_r0 c_m1_i32_148_r0
  let c31_i32_149_r0 : BitVec 32 := 31#32
  let v167_r0 : BitVec 32 := Scalar.select v166_r0 c31_i32_149_r0 v165_r0
  let c0_i32_150_r0 : BitVec 32 := 0#32
  let v168_r0 : BitVec 32 := Scalar.addi v167_r0 c0_i32_150_r0
  let v327_r0 : BitVec 1 := Scalar.cmpi .ne v163_r0 v168_r0
  let c0_i32_81_r0 : BitVec 32 := 0#32
  let c1_i32_83_r0 : BitVec 32 := 1#32
  let arg4_r0 : BitVec 32 := Scf.iv c0_i32_81_r0 c1_i32_83_r0 k0_t1
  let c0_i32_143_r0 : BitVec 32 := 0#32
  let v161_r0 : BitVec 1 := Scalar.cmpi .eq arg4_r0 c0_i32_143_r0
  let true_238_r0 : BitVec 1 := 1#1
  let v328_r0 : BitVec 1 := Scalar.xori v161_r0 true_238_r0
  let v329_r0 : BitVec 1 := Scalar.andi v327_r0 v328_r0
  let v330_r0 : BitVec 32 := Scalar.extui v329_r0
  let c0_i32_239_r0 : BitVec 32 := 0#32
  let v331_r0 : BitVec 1 := Scalar.cmpi .ne v330_r0 c0_i32_239_r0
  v331_r0

def k0_off40 (arg11_r0 : BitVec 32) : Fin 2 → Nat :=
  let c512_i32_248_r0 : BitVec 32 := 512#32
  let true_147_r0 : BitVec 1 := 1#1
  let c1_i32_146_r0 : BitVec 32 := 1#32
  let v164_r0 : BitVec 32 := Scalar.subi arg11_r0 c1_i32_146_r0
  let v165_r0 : BitVec 32 := Scalar.select true_147_r0 v164_r0 arg11_r0
  let c_m1_i32_148_r0 : BitVec 32 := 4294967295#32
  let v166_r0 : BitVec 1 := Scalar.cmpi .eq v165_r0 c_m1_i32_148_r0
  let c31_i32_149_r0 : BitVec 32 := 31#32
  let v167_r0 : BitVec 32 := Scalar.select v166_r0 c31_i32_149_r0 v165_r0
  let c0_i32_150_r0 : BitVec 32 := 0#32
  let v168_r0 : BitVec 32 := Scalar.addi v167_r0 c0_i32_150_r0
  let v344_r0 : BitVec 32 := Scalar.muli c512_i32_248_r0 v168_r0
  let c0_i32_249_r0 : BitVec 32 := 0#32
  ![v344_r0.toNat, 0]
def k0_off41 (arg10_r0 : BitVec 32) : Fin 3 → Nat :=
  let c2_i32_247_r0 : BitVec 32 := 2#32
  let v343_r0 : BitVec 32 := Scalar.remui arg10_r0 c2_i32_247_r0
  let c0_i32_250_r0 : BitVec 32 := 0#32
  let c0_i32_251_r0 : BitVec 32 := 0#32
  ![v343_r0.toNat, 0, 0]

def k0_chk1 (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) : Prop :=
  (∀ (k0_h7 : k0_cond7 k0_t1 arg11_r0 = 1#1), ∀ a, (k0_off21 arg5_r0) a + S1.size a ≤ S8.size a) ∧
  (∀ (k0_h7 : k0_cond7 k0_t1 arg11_r0 = 1#1), ∀ a, (k0_off22 arg5_r0) a + S1x512x2048.size a ≤ S8x512x2048.size a) ∧
  (∀ (k0_h7 : k0_cond7 k0_t1 arg11_r0 = 1#1), ∀ a, (k0_off23 arg11_r0) a + S512x2048.size a ≤ S16384x2048.size a) ∧
  (∀ (k0_h8 : k0_cond8 k0_t1 arg11_r0 = 1#1), ∀ a, (k0_off24 arg6_r0) a + S1.size a ≤ S8.size a) ∧
  (∀ (k0_h8 : k0_cond8 k0_t1 arg11_r0 = 1#1), ∀ a, (k0_off25 arg6_r0) a + S1x512x2048.size a ≤ S8x512x2048.size a) ∧
  (∀ (k0_h8 : k0_cond8 k0_t1 arg11_r0 = 1#1), ∀ a, (k0_off26 arg11_r0) a + S512x2048.size a ≤ S16384x2048.size a) ∧
  (∀ (k0_h12 : k0_cond12 k0_t1 arg11_r0 = 1#1), ∀ a, (k0_off30 arg7_r0) a + S1.size a ≤ S2.size a) ∧
  (∀ (k0_h12 : k0_cond12 k0_t1 arg11_r0 = 1#1), ∀ a, (k0_off31 arg11_r0) a + S512x2.size a ≤ S16384x2.size a) ∧
  (∀ (k0_h12 : k0_cond12 k0_t1 arg11_r0 = 1#1), ∀ a, (k0_off32 arg7_r0) a + S1x512x2.size a ≤ S2x512x2.size a) ∧
  (∀ (k0_h13 : k0_cond13 k0_t1 arg11_r0 = 1#1), ∀ a, (k0_off33 arg9_r0) a + S1.size a ≤ S2.size a) ∧
  (∀ (k0_h13 : k0_cond13 k0_t1 arg11_r0 = 1#1), ∀ a, (k0_off34 arg11_r0) a + S512x2.size a ≤ S16384x2.size a) ∧
  (∀ (k0_h13 : k0_cond13 k0_t1 arg11_r0 = 1#1), ∀ a, (k0_off35 arg9_r0) a + S1x512x2.size a ≤ S2x512x2.size a) ∧
  (∀ (k0_h15 : k0_cond15 k0_t1 arg11_r0 = 1#1), ∀ a, (k0_off36 arg8_r0) a + S1.size a ≤ S2.size a) ∧
  (∀ (k0_h15 : k0_cond15 k0_t1 arg11_r0 = 1#1), ∀ a, (k0_off37 arg11_r0) a + S512x2.size a ≤ S16384x2.size a) ∧
  (∀ (k0_h15 : k0_cond15 k0_t1 arg11_r0 = 1#1), ∀ a, (k0_off38 arg8_r0) a + S1x512x2.size a ≤ S2x512x2.size a) ∧
  (∀ (k0_h16 : k0_cond16 k0_t1 arg11_r0 = 1#1), ∀ a, (k0_off39 arg10_r0) a + S1.size a ≤ S2.size a) ∧
  (∀ (k0_h16 : k0_cond16 k0_t1 arg11_r0 = 1#1), ∀ a, (k0_off40 arg11_r0) a + S512x2.size a ≤ S16384x2.size a) ∧
  (∀ (k0_h16 : k0_cond16 k0_t1 arg11_r0 = 1#1), ∀ a, (k0_off41 arg10_r0) a + S1x512x2.size a ≤ S2x512x2.size a)
theorem k0_off21_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h7 : k0_cond7 k0_t1 arg11_r0 = 1#1), ∀ a, (k0_off21 arg5_r0) a + S1.size a ≤ S8.size a := fun k0_t1 arg5_r0 arg6_r0 arg7_r0 arg8_r0 arg9_r0 arg10_r0 arg11_r0 k0_hw1 k0_h7 => k0_hw1.1 k0_h7
theorem k0_off22_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h7 : k0_cond7 k0_t1 arg11_r0 = 1#1), ∀ a, (k0_off22 arg5_r0) a + S1x512x2048.size a ≤ S8x512x2048.size a := fun k0_t1 arg5_r0 arg6_r0 arg7_r0 arg8_r0 arg9_r0 arg10_r0 arg11_r0 k0_hw1 k0_h7 => k0_hw1.2.1 k0_h7
theorem k0_off23_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h7 : k0_cond7 k0_t1 arg11_r0 = 1#1), ∀ a, (k0_off23 arg11_r0) a + S512x2048.size a ≤ S16384x2048.size a := fun k0_t1 arg5_r0 arg6_r0 arg7_r0 arg8_r0 arg9_r0 arg10_r0 arg11_r0 k0_hw1 k0_h7 => k0_hw1.2.2.1 k0_h7
theorem k0_off24_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h8 : k0_cond8 k0_t1 arg11_r0 = 1#1), ∀ a, (k0_off24 arg6_r0) a + S1.size a ≤ S8.size a := fun k0_t1 arg5_r0 arg6_r0 arg7_r0 arg8_r0 arg9_r0 arg10_r0 arg11_r0 k0_hw1 k0_h8 => k0_hw1.2.2.2.1 k0_h8
theorem k0_off25_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h8 : k0_cond8 k0_t1 arg11_r0 = 1#1), ∀ a, (k0_off25 arg6_r0) a + S1x512x2048.size a ≤ S8x512x2048.size a := fun k0_t1 arg5_r0 arg6_r0 arg7_r0 arg8_r0 arg9_r0 arg10_r0 arg11_r0 k0_hw1 k0_h8 => k0_hw1.2.2.2.2.1 k0_h8
theorem k0_off26_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h8 : k0_cond8 k0_t1 arg11_r0 = 1#1), ∀ a, (k0_off26 arg11_r0) a + S512x2048.size a ≤ S16384x2048.size a := fun k0_t1 arg5_r0 arg6_r0 arg7_r0 arg8_r0 arg9_r0 arg10_r0 arg11_r0 k0_hw1 k0_h8 => k0_hw1.2.2.2.2.2.1 k0_h8
theorem k0_off30_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h12 : k0_cond12 k0_t1 arg11_r0 = 1#1), ∀ a, (k0_off30 arg7_r0) a + S1.size a ≤ S2.size a := fun k0_t1 arg5_r0 arg6_r0 arg7_r0 arg8_r0 arg9_r0 arg10_r0 arg11_r0 k0_hw1 k0_h12 => k0_hw1.2.2.2.2.2.2.1 k0_h12
theorem k0_off31_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h12 : k0_cond12 k0_t1 arg11_r0 = 1#1), ∀ a, (k0_off31 arg11_r0) a + S512x2.size a ≤ S16384x2.size a := fun k0_t1 arg5_r0 arg6_r0 arg7_r0 arg8_r0 arg9_r0 arg10_r0 arg11_r0 k0_hw1 k0_h12 => k0_hw1.2.2.2.2.2.2.2.1 k0_h12
theorem k0_off32_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h12 : k0_cond12 k0_t1 arg11_r0 = 1#1), ∀ a, (k0_off32 arg7_r0) a + S1x512x2.size a ≤ S2x512x2.size a := fun k0_t1 arg5_r0 arg6_r0 arg7_r0 arg8_r0 arg9_r0 arg10_r0 arg11_r0 k0_hw1 k0_h12 => k0_hw1.2.2.2.2.2.2.2.2.1 k0_h12
theorem k0_off33_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h13 : k0_cond13 k0_t1 arg11_r0 = 1#1), ∀ a, (k0_off33 arg9_r0) a + S1.size a ≤ S2.size a := fun k0_t1 arg5_r0 arg6_r0 arg7_r0 arg8_r0 arg9_r0 arg10_r0 arg11_r0 k0_hw1 k0_h13 => k0_hw1.2.2.2.2.2.2.2.2.2.1 k0_h13
theorem k0_off34_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h13 : k0_cond13 k0_t1 arg11_r0 = 1#1), ∀ a, (k0_off34 arg11_r0) a + S512x2.size a ≤ S16384x2.size a := fun k0_t1 arg5_r0 arg6_r0 arg7_r0 arg8_r0 arg9_r0 arg10_r0 arg11_r0 k0_hw1 k0_h13 => k0_hw1.2.2.2.2.2.2.2.2.2.2.1 k0_h13
theorem k0_off35_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h13 : k0_cond13 k0_t1 arg11_r0 = 1#1), ∀ a, (k0_off35 arg9_r0) a + S1x512x2.size a ≤ S2x512x2.size a := fun k0_t1 arg5_r0 arg6_r0 arg7_r0 arg8_r0 arg9_r0 arg10_r0 arg11_r0 k0_hw1 k0_h13 => k0_hw1.2.2.2.2.2.2.2.2.2.2.2.1 k0_h13
theorem k0_off36_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h15 : k0_cond15 k0_t1 arg11_r0 = 1#1), ∀ a, (k0_off36 arg8_r0) a + S1.size a ≤ S2.size a := fun k0_t1 arg5_r0 arg6_r0 arg7_r0 arg8_r0 arg9_r0 arg10_r0 arg11_r0 k0_hw1 k0_h15 => k0_hw1.2.2.2.2.2.2.2.2.2.2.2.2.1 k0_h15
theorem k0_off37_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h15 : k0_cond15 k0_t1 arg11_r0 = 1#1), ∀ a, (k0_off37 arg11_r0) a + S512x2.size a ≤ S16384x2.size a := fun k0_t1 arg5_r0 arg6_r0 arg7_r0 arg8_r0 arg9_r0 arg10_r0 arg11_r0 k0_hw1 k0_h15 => k0_hw1.2.2.2.2.2.2.2.2.2.2.2.2.2.1 k0_h15
theorem k0_off38_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h15 : k0_cond15 k0_t1 arg11_r0 = 1#1), ∀ a, (k0_off38 arg8_r0) a + S1x512x2.size a ≤ S2x512x2.size a := fun k0_t1 arg5_r0 arg6_r0 arg7_r0 arg8_r0 arg9_r0 arg10_r0 arg11_r0 k0_hw1 k0_h15 => k0_hw1.2.2.2.2.2.2.2.2.2.2.2.2.2.2.1 k0_h15
theorem k0_off39_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h16 : k0_cond16 k0_t1 arg11_r0 = 1#1), ∀ a, (k0_off39 arg10_r0) a + S1.size a ≤ S2.size a := fun k0_t1 arg5_r0 arg6_r0 arg7_r0 arg8_r0 arg9_r0 arg10_r0 arg11_r0 k0_hw1 k0_h16 => k0_hw1.2.2.2.2.2.2.2.2.2.2.2.2.2.2.2.1 k0_h16
theorem k0_off40_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h16 : k0_cond16 k0_t1 arg11_r0 = 1#1), ∀ a, (k0_off40 arg11_r0) a + S512x2.size a ≤ S16384x2.size a := fun k0_t1 arg5_r0 arg6_r0 arg7_r0 arg8_r0 arg9_r0 arg10_r0 arg11_r0 k0_hw1 k0_h16 => k0_hw1.2.2.2.2.2.2.2.2.2.2.2.2.2.2.2.2.1 k0_h16
theorem k0_off41_inb : ∀ (k0_t1 : Fin k0_t1_loop.trips) (arg5_r0 : BitVec 32) (arg6_r0 : BitVec 32) (arg7_r0 : BitVec 32) (arg8_r0 : BitVec 32) (arg9_r0 : BitVec 32) (arg10_r0 : BitVec 32) (arg11_r0 : BitVec 32) (k0_hw1 : k0_chk1 k0_t1 arg5_r0 arg6_r0 arg7_r0 arg8_r0 arg9_r0 arg10_r0 arg11_r0), ∀ (k0_h16 : k0_cond16 k0_t1 arg11_r0 = 1#1), ∀ a, (k0_off41 arg10_r0) a + S1x512x2.size a ≤ S2x512x2.size a := fun k0_t1 arg5_r0 arg6_r0 arg7_r0 arg8_r0 arg9_r0 arg10_r0 arg11_r0 k0_hw1 k0_h16 => k0_hw1.2.2.2.2.2.2.2.2.2.2.2.2.2.2.2.2.2 k0_h16

def k0_off42 (v96_3_r0 : BitVec 32) : Fin 1 → Nat :=
  let c2_i32_r0 : BitVec 32 := 2#32
  let v147_r0 : BitVec 32 := Scalar.remui v96_3_r0 c2_i32_r0
  ![v147_r0.toNat]

def k0_off43 (v96_6_r0 : BitVec 32) : Fin 2 → Nat :=
  let c512_i32_r0 : BitVec 32 := 512#32
  let true_86_r0 : BitVec 1 := 1#1
  let c1_i32_85_r0 : BitVec 32 := 1#32
  let v97_r0 : BitVec 32 := Scalar.subi v96_6_r0 c1_i32_85_r0
  let v98_r0 : BitVec 32 := Scalar.select true_86_r0 v97_r0 v96_6_r0
  let c_m1_i32_87_r0 : BitVec 32 := 4294967295#32
  let v99_r0 : BitVec 1 := Scalar.cmpi .eq v98_r0 c_m1_i32_87_r0
  let c31_i32_88_r0 : BitVec 32 := 31#32
  let v100_r0 : BitVec 32 := Scalar.select v99_r0 c31_i32_88_r0 v98_r0
  let c0_i32_89_r0 : BitVec 32 := 0#32
  let v101_r0 : BitVec 32 := Scalar.addi v100_r0 c0_i32_89_r0
  let v148_r0 : BitVec 32 := Scalar.muli c512_i32_r0 v101_r0
  let c0_i32_135_r0 : BitVec 32 := 0#32
  ![v148_r0.toNat, 0]

def k0_off44 (v96_3_r0 : BitVec 32) : Fin 3 → Nat :=
  let c2_i32_r0 : BitVec 32 := 2#32
  let v147_r0 : BitVec 32 := Scalar.remui v96_3_r0 c2_i32_r0
  let c0_i32_136_r0 : BitVec 32 := 0#32
  let c0_i32_137_r0 : BitVec 32 := 0#32
  ![v147_r0.toNat, 0, 0]

def k0_chk5 (v96_3_r0 : BitVec 32) : Prop :=
  (∀ a, (k0_off42 v96_3_r0) a + S1.size a ≤ S2.size a) ∧
  (∀ a, (k0_off44 v96_3_r0) a + S1x512x2.size a ≤ S2x512x2.size a)
theorem k0_off42_inb : ∀ (v96_3_r0 : BitVec 32) (k0_hw5 : k0_chk5 v96_3_r0), ∀ a, (k0_off42 v96_3_r0) a + S1.size a ≤ S2.size a := fun v96_3_r0 k0_hw5 => k0_hw5.1
theorem k0_off44_inb : ∀ (v96_3_r0 : BitVec 32) (k0_hw5 : k0_chk5 v96_3_r0), ∀ a, (k0_off44 v96_3_r0) a + S1x512x2.size a ≤ S2x512x2.size a := fun v96_3_r0 k0_hw5 => k0_hw5.2

def k0_off45 (v96_5_r0 : BitVec 32) : Fin 1 → Nat :=
  let c2_i32_138_r0 : BitVec 32 := 2#32
  let v154_r0 : BitVec 32 := Scalar.remui v96_5_r0 c2_i32_138_r0
  ![v154_r0.toNat]

def k0_off46 (v96_6_r0 : BitVec 32) : Fin 2 → Nat :=
  let c512_i32_139_r0 : BitVec 32 := 512#32
  let true_86_r0 : BitVec 1 := 1#1
  let c1_i32_85_r0 : BitVec 32 := 1#32
  let v97_r0 : BitVec 32 := Scalar.subi v96_6_r0 c1_i32_85_r0
  let v98_r0 : BitVec 32 := Scalar.select true_86_r0 v97_r0 v96_6_r0
  let c_m1_i32_87_r0 : BitVec 32 := 4294967295#32
  let v99_r0 : BitVec 1 := Scalar.cmpi .eq v98_r0 c_m1_i32_87_r0
  let c31_i32_88_r0 : BitVec 32 := 31#32
  let v100_r0 : BitVec 32 := Scalar.select v99_r0 c31_i32_88_r0 v98_r0
  let c0_i32_89_r0 : BitVec 32 := 0#32
  let v101_r0 : BitVec 32 := Scalar.addi v100_r0 c0_i32_89_r0
  let v155_r0 : BitVec 32 := Scalar.muli c512_i32_139_r0 v101_r0
  let c0_i32_140_r0 : BitVec 32 := 0#32
  ![v155_r0.toNat, 0]

def k0_chk6 (v96_6_r0 : BitVec 32) : Prop :=
  (∀ a, (k0_off43 v96_6_r0) a + S512x2.size a ≤ S16384x2.size a) ∧
  (∀ a, (k0_off46 v96_6_r0) a + S512x2.size a ≤ S16384x2.size a)
theorem k0_off43_inb : ∀ (v96_6_r0 : BitVec 32) (k0_hw6 : k0_chk6 v96_6_r0), ∀ a, (k0_off43 v96_6_r0) a + S512x2.size a ≤ S16384x2.size a := fun v96_6_r0 k0_hw6 => k0_hw6.1
theorem k0_off46_inb : ∀ (v96_6_r0 : BitVec 32) (k0_hw6 : k0_chk6 v96_6_r0), ∀ a, (k0_off46 v96_6_r0) a + S512x2.size a ≤ S16384x2.size a := fun v96_6_r0 k0_hw6 => k0_hw6.2

def k0_off47 (v96_5_r0 : BitVec 32) : Fin 3 → Nat :=
  let c2_i32_138_r0 : BitVec 32 := 2#32
  let v154_r0 : BitVec 32 := Scalar.remui v96_5_r0 c2_i32_138_r0
  let c0_i32_141_r0 : BitVec 32 := 0#32
  let c0_i32_142_r0 : BitVec 32 := 0#32
  ![v154_r0.toNat, 0, 0]

def k0_chk7 (v96_5_r0 : BitVec 32) : Prop :=
  (∀ a, (k0_off45 v96_5_r0) a + S1.size a ≤ S2.size a) ∧
  (∀ a, (k0_off47 v96_5_r0) a + S1x512x2.size a ≤ S2x512x2.size a)
theorem k0_off45_inb : ∀ (v96_5_r0 : BitVec 32) (k0_hw7 : k0_chk7 v96_5_r0), ∀ a, (k0_off45 v96_5_r0) a + S1.size a ≤ S2.size a := fun v96_5_r0 k0_hw7 => k0_hw7.1
theorem k0_off47_inb : ∀ (v96_5_r0 : BitVec 32) (k0_hw7 : k0_chk7 v96_5_r0), ∀ a, (k0_off47 v96_5_r0) a + S1x512x2.size a ≤ S2x512x2.size a := fun v96_5_r0 k0_hw7 => k0_hw7.2

abbrev stage0_0 : Fin 1 → Memref sig .tc .vmem S2048x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x2048 : Shape := ⟨2, ![16384, 2048]⟩
abbrev S2048x16 : Shape := ⟨2, ![2048, 16]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16, .f32⟩
  | .hbm, ⟨2, _⟩ => ⟨S16384x16, .f32⟩
  | .hbm, ⟨3, _⟩ => ⟨S_, .f32⟩
  | .hbm, ⟨4, _⟩ => ⟨S16384, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384x1, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x16, .f32⟩
  | .hbm, ⟨16, _⟩ => ⟨S16384x16, .f32⟩
  | .hbm, ⟨17, _⟩ => ⟨S16384x2, .f32⟩
  | .hbm, ⟨18, _⟩ => ⟨S16384x2, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩

abbrev nD : Nat := 1
abbrev τ : Topo := Topo.v7x

variable {F : FTy → Type} [FloatOps F]
-- ==== Proof.Words.lean ====
/-
  The kernel's counter words in closed form: what the seven words its loop carries are before trip `k`, the offsets,
  conditions and side conditions the trip computes from them, and those of the code before and after the loop.
-/
module

public import proofs.«01_k».proof.Defs
public import proofs.«01_k».proof.Proof.Gen.KernelIdeal
public import proofs.«01_k».proof.Proof.Gen.KernelIdeal.Skeleton
public import Idealize.ShloMosaic.Lib.Ring.Trips
public import Idealize.ShloMosaic.Lib.Ring.WriteBehind

@[expose] public section

namespace Cert.Proof.Words

open Cert.KernelIdeal Cert.KernelIdeal.Gen
open Idealize.ShloMosaic Idealize.ShloMosaic.TcCoe

/-! ## Offsets by slot and by block -/

/-- Slot `s` of the input ring's buffer; -/
abbrev slotOff (s : Fin 8) : Fin 3 → Nat := ![s.val, 0, 0]
/-- its semaphore; -/
abbrev semOff (s : Fin 8) : Fin 1 → Nat := ![s.val]
/-- block `b` of the input's rows (and of either result's); -/
abbrev blkOff (b : Fin 32) : Fin 2 → Nat := ![512 * b.val, 0]
/-- slot `s` of an output ring's buffer; -/
abbrev outOff (s : Fin 2) : Fin 3 → Nat := ![s.val, 0, 0]
/-- its semaphore. -/
abbrev osemOff (s : Fin 2) : Fin 1 → Nat := ![s.val]

/-! ## The words the loop carries before trip `k` -/

/-- Blocks requested so far. -/
def w5 (k : ℕ) : BitVec 32 := BitVec.ofNat 32 (min (7 + k) 32)
/-- Trips done so far. -/
def w6 (k : ℕ) : BitVec 32 := BitVec.ofNat 32 k
/-- Output blocks waited for so far. -/
def w8 (k : ℕ) : BitVec 32 := BitVec.ofNat 32 (k - 1)
/-- The trip's block number. -/
def w11 (k : ℕ) : BitVec 32 := BitVec.ofNat 32 (k % 32)

/-- The carried tuple before trip `k`. -/
abbrev ws (k : ℕ) : BitVec 32 × BitVec 32 × BitVec 32 × BitVec 32 × BitVec 32 × BitVec 32 × BitVec 32 :=
  (w5 k, w6 k, w6 k, w8 k, w6 k, w8 k, w11 k)

theorem trips_eq : k0_t1_loop.trips = 32 := by decide +kernel
theorem trip_lt (k : Fin k0_t1_loop.trips) : k.val < 32 := Nat.lt_of_lt_of_eq k.isLt trips_eq

/-! ## Side conditions -/

theorem chk4 : ∀ k : Fin k0_t1_loop.trips, k0_chk4 (w6 k.val) := by decide +kernel
theorem chk3 : ∀ k : Fin k0_t1_loop.trips, k0_chk3 (w6 k.val) := by decide +kernel
theorem chk2 : ∀ k : Fin k0_t1_loop.trips, k0_chk2 (w6 k.val) := by decide +kernel
theorem chk1 : ∀ k : Fin k0_t1_loop.trips,
    k0_chk1 k (w5 k.val) (w6 k.val) (w6 k.val) (w8 k.val) (w6 k.val) (w8 k.val) (w11 k.val) := by decide +kernel
theorem chk5 : k0_chk5 (w8 32) := by decide +kernel
theorem chk6 : k0_chk6 (w11 32) := by decide +kernel
theorem chk7 : k0_chk7 (w8 32) := by decide +kernel

/-! ## Conditions -/

theorem cond7 : ∀ k : Fin k0_t1_loop.trips, k.val + 7 < 32 → k0_cond7 k (w11 k.val) = 1#1 := by decide +kernel
theorem cond7' : ∀ k : Fin k0_t1_loop.trips, 32 ≤ k.val + 7 → ¬k0_cond7 k (w11 k.val) = 1#1 := by decide +kernel
theorem cond8 : ∀ k : Fin k0_t1_loop.trips, k0_cond8 k (w11 k.val) = 1#1 := by decide +kernel
theorem cond12 : ∀ k : Fin k0_t1_loop.trips, k0_cond12 k (w11 k.val) = 1#1 := by decide +kernel
theorem cond13 : ∀ k : Fin k0_t1_loop.trips, k0_cond13 k (w11 k.val) = 1#1 := by decide +kernel
theorem cond15 : ∀ k : Fin k0_t1_loop.trips, 1 ≤ k.val → k0_cond15 k (w11 k.val) = 1#1 := by decide +kernel
theorem cond15' : ∀ k : Fin k0_t1_loop.trips, k.val = 0 → ¬k0_cond15 k (w11 k.val) = 1#1 := by decide +kernel
theorem cond16 : ∀ k : Fin k0_t1_loop.trips, 1 ≤ k.val → k0_cond16 k (w11 k.val) = 1#1 := by decide +kernel
theorem cond16' : ∀ k : Fin k0_t1_loop.trips, k.val = 0 → ¬k0_cond16 k (w11 k.val) = 1#1 := by decide +kernel
theorem condP : k0_cond1 = 1#1 ∧ k0_cond2 = 1#1 ∧ k0_cond3 = 1#1 ∧ k0_cond4 = 1#1 ∧ k0_cond5 = 1#1 ∧ k0_cond6 = 1#1 := by
  decide +kernel

/-! ## Offsets -/

theorem off21 : ∀ k : Fin k0_t1_loop.trips, k.val + 7 < 32 → k0_off21 (w5 k.val) = semOff (Ring.sl 8 (k.val + 7)) := by decide +kernel
theorem off22 : ∀ k : Fin k0_t1_loop.trips, k.val + 7 < 32 → k0_off22 (w5 k.val) = slotOff (Ring.sl 8 (k.val + 7)) := by decide +kernel
theorem off23 : ∀ k : Fin k0_t1_loop.trips, k.val + 7 < 32 → k0_off23 (w11 k.val) = blkOff (Ring.bk 32 (k.val + 7)) := by decide +kernel
theorem off24 : ∀ k : Fin k0_t1_loop.trips, k0_off24 (w6 k.val) = semOff (Ring.sl 8 k.val) := by decide +kernel
theorem off25 : ∀ k : Fin k0_t1_loop.trips, k0_off25 (w6 k.val) = slotOff (Ring.sl 8 k.val) := by decide +kernel
theorem off26 : ∀ k : Fin k0_t1_loop.trips, k0_off26 (w11 k.val) = blkOff (Ring.bk 32 k.val) := by decide +kernel
theorem off27 : ∀ k : Fin k0_t1_loop.trips, k0_off27 (w6 k.val) = slotOff (Ring.sl 8 k.val) := by decide +kernel
theorem off28 : ∀ k : Fin k0_t1_loop.trips, k0_off28 (w6 k.val) = outOff (Ring.sl 2 k.val) := by decide +kernel
theorem off29 : ∀ k : Fin k0_t1_loop.trips, k0_off29 (w6 k.val) = outOff (Ring.sl 2 k.val) := by decide +kernel
theorem off30 : ∀ k : Fin k0_t1_loop.trips, k0_off30 (w6 k.val) = osemOff (Ring.sl 2 k.val) := by decide +kernel
theorem off31 : ∀ k : Fin k0_t1_loop.trips, k0_off31 (w11 k.val) = blkOff (Ring.bk 32 k.val) := by decide +kernel
theorem off32 : ∀ k : Fin k0_t1_loop.trips, k0_off32 (w6 k.val) = outOff (Ring.sl 2 k.val) := by decide +kernel
theorem off33 : ∀ k : Fin k0_t1_loop.trips, k0_off33 (w6 k.val) = osemOff (Ring.sl 2 k.val) := by decide +kernel
theorem off34 : ∀ k : Fin k0_t1_loop.trips, k0_off34 (w11 k.val) = blkOff (Ring.bk 32 k.val) := by decide +kernel
theorem off35 : ∀ k : Fin k0_t1_loop.trips, k0_off35 (w6 k.val) = outOff (Ring.sl 2 k.val) := by decide +kernel
theorem off36 : ∀ k : Fin k0_t1_loop.trips, 1 ≤ k.val → k0_off36 (w8 k.val) = osemOff (Ring.sl 2 (k.val + 1)) := by decide +kernel
theorem off37 : ∀ k : Fin k0_t1_loop.trips, 1 ≤ k.val → k0_off37 (w11 k.val) = blkOff (Ring.bk 32 (k.val - 1)) := by decide +kernel
theorem off38 : ∀ k : Fin k0_t1_loop.trips, 1 ≤ k.val → k0_off38 (w8 k.val) = outOff (Ring.sl 2 (k.val + 1)) := by decide +kernel
theorem off39 : ∀ k : Fin k0_t1_loop.trips, 1 ≤ k.val → k0_off39 (w8 k.val) = osemOff (Ring.sl 2 (k.val + 1)) := by decide +kernel
theorem off40 : ∀ k : Fin k0_t1_loop.trips, 1 ≤ k.val → k0_off40 (w11 k.val) = blkOff (Ring.bk 32 (k.val - 1)) := by decide +kernel
theorem off41 : ∀ k : Fin k0_t1_loop.trips, 1 ≤ k.val → k0_off41 (w8 k.val) = outOff (Ring.sl 2 (k.val + 1)) := by decide +kernel
theorem off42 : k0_off42 31#32 = osemOff 1 := by decide +kernel
theorem off43 : k0_off43 0#32 = blkOff 31 := by decide +kernel
theorem off44 : k0_off44 31#32 = outOff 1 := by decide +kernel
theorem off45 : k0_off45 31#32 = osemOff 1 := by decide +kernel
theorem off46 : k0_off46 0#32 = blkOff 31 := by decide +kernel
theorem off47 : k0_off47 31#32 = outOff 1 := by decide +kernel

end Cert.Proof.Words

end
-- ==== Proof.Names.lean ====
/-
  Names for the parts of the kernel's buffers, and what they resolve to: block `b` of the rows, slot `s` of the input
  ring and its semaphore, and the same for the two results. Every slice the kernel takes is one of these.
-/
module

public import proofs.«01_k».proof.Defs
public import proofs.«01_k».proof.Proof.Words
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.Value
public import Idealize.ShloMosaic.Lib.Ring
public import Idealize.ShloMosaic.Lib.Affine
public import Idealize.ShloMosaic.Lib.Tactic

@[expose] public section

noncomputable section

namespace Cert.Proof.Route

open Cert.KernelIdeal Cert.KernelIdeal.Gen Cert.Proof.Words
open Idealize.ShloMosaic
open Idealize.ShloMosaic.TcCoe Idealize.ShloMosaic.Tactic

/-! ## The buffers -/

abbrev xM : Memref sig .tc .hbm S16384x2048 .f32 := Memref.whole main_arg0
abbrev oM : Memref sig .tc .hbm S16384x2 .f32 := Memref.whole main_v0_0
abbrev iM : Memref sig .tc .hbm S16384x2 .i32 := Memref.whole main_v0_1
abbrev xbM : Memref sig .tc .vmem S8x512x2048 .f32 := Memref.whole cc0_scoped0
abbrev obM : Memref sig .tc .vmem S2x512x2 .f32 := Memref.whole cc0_scoped2
abbrev ibM : Memref sig .tc .vmem S2x512x2 .i32 := Memref.whole cc0_scoped4

/-! ## Ranges -/

theorem xblk_inb (b : Fin 32) : ∀ a, blkOff b a + S512x2048.size a ≤ S16384x2048.size a := by
  have := b.isLt; intro a; fin_cases a
  · show 512 * b.val + 512 ≤ 16384; omega
  · show 0 + 2048 ≤ 2048; omega
theorem oblk_inb (b : Fin 32) : ∀ a, blkOff b a + S512x2.size a ≤ S16384x2.size a := by
  have := b.isLt; intro a; fin_cases a
  · show 512 * b.val + 512 ≤ 16384; omega
  · show 0 + 2 ≤ 2; omega
theorem xslot_inb (s : Fin 8) : ∀ a, slotOff s a + S1x512x2048.size a ≤ S8x512x2048.size a := by
  have := s.isLt; intro a; fin_cases a
  · show s.val + 1 ≤ 8; omega
  · show 0 + 512 ≤ 512; omega
  · show 0 + 2048 ≤ 2048; omega
theorem oslot_inb (s : Fin 2) : ∀ a, outOff s a + S1x512x2.size a ≤ S2x512x2.size a := by
  have := s.isLt; intro a; fin_cases a
  · show s.val + 1 ≤ 2; omega
  · show 0 + 512 ≤ 512; omega
  · show 0 + 2 ≤ 2; omega
theorem xsem_inb (s : Fin 8) : ∀ a, semOff s a + S1.size a ≤ S8.size a := by
  have := s.isLt; intro a; fin_cases a; show s.val + 1 ≤ 8; omega
theorem osem_inb (s : Fin 2) : ∀ a, osemOff s a + S1.size a ≤ Cert.KernelIdeal.S2.size a := by
  have := s.isLt; intro a; fin_cases a; show s.val + 1 ≤ 2; omega

/-! ## The parts -/

/-- Block `b` of the rows. -/
def xblk (b : Fin 32) : Memref sig .tc .hbm S512x2048 .f32 :=
  xM.slice (Rect.unit (s := S16384x2048) (blkOff b) S512x2048.size (xblk_inb b)) (fun _ => rfl)
/-- Slot `s` of the input ring. -/
def xslot (s : Fin 8) : Memref sig .tc .vmem S512x2048 .f32 :=
  (xbM.slice (Rect.unit (s := S8x512x2048) (slotOff s) S1x512x2048.size (xslot_inb s)) (fun _ => rfl)).squeeze S512x2048 squeezes_S1x512x2048_S512x2048
/-- Its semaphore. -/
def xsem (s : Fin 8) : DmaSems sig S_ := (cc0_scoped1.slice (Rect.unit (s := S8) (semOff s) S1.size (xsem_inb s))).squeeze S_ squeezes_S1_S_
/-- Block `b` of the scores. -/
def oblk (b : Fin 32) : Memref sig .tc .hbm S512x2 .f32 :=
  oM.slice (Rect.unit (s := S16384x2) (blkOff b) S512x2.size (oblk_inb b)) (fun _ => rfl)
/-- Slot `s` of the scores' ring. -/
def oslot (s : Fin 2) : Memref sig .tc .vmem S512x2 .f32 :=
  (obM.slice (Rect.unit (s := S2x512x2) (outOff s) S1x512x2.size (oslot_inb s)) (fun _ => rfl)).squeeze S512x2 squeezes_S1x512x2_S512x2
/-- Its semaphore. -/
def osm (s : Fin 2) : DmaSems sig S_ := (cc0_scoped3.slice (Rect.unit (s := Cert.KernelIdeal.S2) (osemOff s) S1.size (osem_inb s))).squeeze S_ squeezes_S1_S_
/-- Block `b` of the indices. -/
def iblkM (b : Fin 32) : Memref sig .tc .hbm S512x2 .i32 :=
  iM.slice (Rect.unit (s := S16384x2) (blkOff b) S512x2.size (oblk_inb b)) (fun _ => rfl)
/-- Slot `s` of the indices' ring. -/
def islot (s : Fin 2) : Memref sig .tc .vmem S512x2 .i32 :=
  (ibM.slice (Rect.unit (s := S2x512x2) (outOff s) S1x512x2.size (oslot_inb s)) (fun _ => rfl)).squeeze S512x2 squeezes_S1x512x2_S512x2
/-- Its semaphore. -/
def ism (s : Fin 2) : DmaSems sig S_ := (cc0_scoped5.slice (Rect.unit (s := Cert.KernelIdeal.S2) (osemOff s) S1.size (osem_inb s))).squeeze S_ squeezes_S1_S_

instance (s : Fin 8) : ClosedOff (slotOff s) := ⟨slotOff s, rfl⟩
instance (s : Fin 2) : ClosedOff (outOff s) := ⟨outOff s, rfl⟩
instance (b : Fin 32) : ClosedOff (blkOff b) := ⟨blkOff b, rfl⟩

/-! ## A slice at an offset equal to a named one is the named part -/

theorem xblk_congr {off : Fin 2 → Nat} {b : Fin 32} (e : off = blkOff b) (hh hs) :
    xM.slice (Rect.unit (s := S16384x2048) off S512x2048.size hh) hs = xblk b := Memref.slice_unit_congr _ e _ _ _ (fun _ => rfl)
theorem xslot_congr {off : Fin 3 → Nat} {s : Fin 8} (e : off = slotOff s) (hh hs) :
    (xbM.slice (Rect.unit (s := S8x512x2048) off S1x512x2048.size hh) hs).squeeze S512x2048 squeezes_S1x512x2048_S512x2048 = xslot s :=
  congrArg (fun M : Memref sig .tc .vmem S1x512x2048 .f32 => M.squeeze S512x2048 squeezes_S1x512x2048_S512x2048) (Memref.slice_unit_congr _ e _ _ _ _)
theorem xsem_congr {off : Fin 1 → Nat} {s : Fin 8} (e : off = semOff s) (hh) :
    (cc0_scoped1.slice (Rect.unit (s := S8) off S1.size hh)).squeeze S_ squeezes_S1_S_ = xsem s :=
  congrArg (fun A : DmaSems sig S1 => A.squeeze S_ squeezes_S1_S_) (SemArray.slice_unit_congr _ e _ _)
theorem oblk_congr {off : Fin 2 → Nat} {b : Fin 32} (e : off = blkOff b) (hh hs) :
    oM.slice (Rect.unit (s := S16384x2) off S512x2.size hh) hs = oblk b := Memref.slice_unit_congr _ e _ _ _ (fun _ => rfl)
theorem oslot_congr {off : Fin 3 → Nat} {s : Fin 2} (e : off = outOff s) (hh hs) :
    (obM.slice (Rect.unit (s := S2x512x2) off S1x512x2.size hh) hs).squeeze S512x2 squeezes_S1x512x2_S512x2 = oslot s :=
  congrArg (fun M : Memref sig .tc .vmem S1x512x2 .f32 => M.squeeze S512x2 squeezes_S1x512x2_S512x2) (Memref.slice_unit_congr _ e _ _ _ _)
theorem osm_congr {off : Fin 1 → Nat} {s : Fin 2} (e : off = osemOff s) (hh) :
    (cc0_scoped3.slice (Rect.unit (s := Cert.KernelIdeal.S2) off S1.size hh)).squeeze S_ squeezes_S1_S_ = osm s :=
  congrArg (fun A : DmaSems sig S1 => A.squeeze S_ squeezes_S1_S_) (SemArray.slice_unit_congr _ e _ _)
theorem iblk_congr {off : Fin 2 → Nat} {b : Fin 32} (e : off = blkOff b) (hh hs) :
    iM.slice (Rect.unit (s := S16384x2) off S512x2.size hh) hs = iblkM b := Memref.slice_unit_congr _ e _ _ _ (fun _ => rfl)
theorem islot_congr {off : Fin 3 → Nat} {s : Fin 2} (e : off = outOff s) (hh hs) :
    (ibM.slice (Rect.unit (s := S2x512x2) off S1x512x2.size hh) hs).squeeze S512x2 squeezes_S1x512x2_S512x2 = islot s :=
  congrArg (fun M : Memref sig .tc .vmem S1x512x2 .i32 => M.squeeze S512x2 squeezes_S1x512x2_S512x2) (Memref.slice_unit_congr _ e _ _ _ _)
theorem ism_congr {off : Fin 1 → Nat} {s : Fin 2} (e : off = osemOff s) (hh) :
    (cc0_scoped5.slice (Rect.unit (s := Cert.KernelIdeal.S2) off S1.size hh)).squeeze S_ squeezes_S1_S_ = ism s :=
  congrArg (fun A : DmaSems sig S1 => A.squeeze S_ squeezes_S1_S_) (SemArray.slice_unit_congr _ e _ _)

/-! ## The prologue's parts -/

section Prologue
@[sl_canon] theorem semP1 (hh) : (cc0_scoped1.slice (Rect.unit (s := S8) (k0_off3) S1.size hh)).squeeze S_ squeezes_S1_S_ = xsem (1) := xsem_congr (by decide +kernel) _
@[sl_canon] theorem slotP1_eq (hh hs) : (xbM.slice (Rect.unit (s := S8x512x2048) (k0_off4) S1x512x2048.size hh) hs).squeeze S512x2048 squeezes_S1x512x2048_S512x2048 = xslot (1) := xslot_congr (by decide +kernel) _ _
@[sl_canon] theorem blkP1_eq (hh hs) : xM.slice (Rect.unit (s := S16384x2048) (k0_off5) S512x2048.size hh) hs = xblk (1) := xblk_congr (by decide +kernel) _ _
@[sl_canon] theorem semP2 (hh) : (cc0_scoped1.slice (Rect.unit (s := S8) (k0_off6) S1.size hh)).squeeze S_ squeezes_S1_S_ = xsem (2) := xsem_congr (by decide +kernel) _
@[sl_canon] theorem slotP2_eq (hh hs) : (xbM.slice (Rect.unit (s := S8x512x2048) (k0_off7) S1x512x2048.size hh) hs).squeeze S512x2048 squeezes_S1x512x2048_S512x2048 = xslot (2) := xslot_congr (by decide +kernel) _ _
@[sl_canon] theorem blkP2_eq (hh hs) : xM.slice (Rect.unit (s := S16384x2048) (k0_off8) S512x2048.size hh) hs = xblk (2) := xblk_congr (by decide +kernel) _ _
@[sl_canon] theorem semP3 (hh) : (cc0_scoped1.slice (Rect.unit (s := S8) (k0_off9) S1.size hh)).squeeze S_ squeezes_S1_S_ = xsem (3) := xsem_congr (by decide +kernel) _
@[sl_canon] theorem slotP3_eq (hh hs) : (xbM.slice (Rect.unit (s := S8x512x2048) (k0_off10) S1x512x2048.size hh) hs).squeeze S512x2048 squeezes_S1x512x2048_S512x2048 = xslot (3) := xslot_congr (by decide +kernel) _ _
@[sl_canon] theorem blkP3_eq (hh hs) : xM.slice (Rect.unit (s := S16384x2048) (k0_off11) S512x2048.size hh) hs = xblk (3) := xblk_congr (by decide +kernel) _ _
@[sl_canon] theorem semP4 (hh) : (cc0_scoped1.slice (Rect.unit (s := S8) (k0_off12) S1.size hh)).squeeze S_ squeezes_S1_S_ = xsem (4) := xsem_congr (by decide +kernel) _
@[sl_canon] theorem slotP4_eq (hh hs) : (xbM.slice (Rect.unit (s := S8x512x2048) (k0_off13) S1x512x2048.size hh) hs).squeeze S512x2048 squeezes_S1x512x2048_S512x2048 = xslot (4) := xslot_congr (by decide +kernel) _ _
@[sl_canon] theorem blkP4_eq (hh hs) : xM.slice (Rect.unit (s := S16384x2048) (k0_off14) S512x2048.size hh) hs = xblk (4) := xblk_congr (by decide +kernel) _ _
@[sl_canon] theorem semP5 (hh) : (cc0_scoped1.slice (Rect.unit (s := S8) (k0_off15) S1.size hh)).squeeze S_ squeezes_S1_S_ = xsem (5) := xsem_congr (by decide +kernel) _
@[sl_canon] theorem slotP5_eq (hh hs) : (xbM.slice (Rect.unit (s := S8x512x2048) (k0_off16) S1x512x2048.size hh) hs).squeeze S512x2048 squeezes_S1x512x2048_S512x2048 = xslot (5) := xslot_congr (by decide +kernel) _ _
@[sl_canon] theorem blkP5_eq (hh hs) : xM.slice (Rect.unit (s := S16384x2048) (k0_off17) S512x2048.size hh) hs = xblk (5) := xblk_congr (by decide +kernel) _ _
@[sl_canon] theorem semP6 (hh) : (cc0_scoped1.slice (Rect.unit (s := S8) (k0_off18) S1.size hh)).squeeze S_ squeezes_S1_S_ = xsem (6) := xsem_congr (by decide +kernel) _
@[sl_canon] theorem slotP6_eq (hh hs) : (xbM.slice (Rect.unit (s := S8x512x2048) (k0_off19) S1x512x2048.size hh) hs).squeeze S512x2048 squeezes_S1x512x2048_S512x2048 = xslot (6) := xslot_congr (by decide +kernel) _ _
@[sl_canon] theorem blkP6_eq (hh hs) : xM.slice (Rect.unit (s := S16384x2048) (k0_off20) S512x2048.size hh) hs = xblk (6) := xblk_congr (by decide +kernel) _ _
@[sl_canon] theorem semP0 (hh) : (cc0_scoped1.slice (Rect.unit (s := S8) (k0_off1) S1.size hh)).squeeze S_ squeezes_S1_S_ = xsem (0) := xsem_congr (by decide +kernel) _
@[sl_canon] theorem slotP0_eq (hh hs) : (xbM.slice (Rect.unit (s := S8x512x2048) (k0_off2) S1x512x2048.size hh) hs).squeeze S512x2048 squeezes_S1x512x2048_S512x2048 = xslot (0) := xslot_congr (by decide +kernel) _ _
@[sl_canon] theorem semP0L (hh) : (cc0_scoped1.slice (Rect.unit (s := S8) (![0]) S1.size hh)).squeeze S_ squeezes_S1_S_ = xsem (0) := xsem_congr (by decide) _
@[sl_canon] theorem slotP0L (hh hs) : (xbM.slice (Rect.unit (s := S8x512x2048) (![0, 0, 0]) S1x512x2048.size hh) hs).squeeze S512x2048 squeezes_S1x512x2048_S512x2048 = xslot (0) := xslot_congr (by decide) _ _
@[sl_canon] theorem blkP0L (hh hs) : xM.slice (Rect.unit (s := S16384x2048) (![0, 0]) S512x2048.size hh) hs = xblk (0) := xblk_congr (by decide) _ _
end Prologue

/-! ## A trip's parts -/

section Trip
variable (k : Fin k0_t1_loop.trips)
@[sl_canon] theorem part21 (hk : k.val + 7 < 32) (hh) : (cc0_scoped1.slice (Rect.unit (s := S8) (k0_off21 (w5 k.val)) S1.size hh)).squeeze S_ squeezes_S1_S_ = xsem (Ring.sl 8 (k.val + 7)) := xsem_congr (off21 k hk) _
@[sl_canon] theorem part22 (hk : k.val + 7 < 32) (hh hs) : (xbM.slice (Rect.unit (s := S8x512x2048) (k0_off22 (w5 k.val)) S1x512x2048.size hh) hs).squeeze S512x2048 squeezes_S1x512x2048_S512x2048 = xslot (Ring.sl 8 (k.val + 7)) := xslot_congr (off22 k hk) _ _
@[sl_canon] theorem part23 (hk : k.val + 7 < 32) (hh hs) : xM.slice (Rect.unit (s := S16384x2048) (k0_off23 (w11 k.val)) S512x2048.size hh) hs = xblk (Ring.bk 32 (k.val + 7)) := xblk_congr (off23 k hk) _ _
@[sl_canon] theorem part24 (hh) : (cc0_scoped1.slice (Rect.unit (s := S8) (k0_off24 (w6 k.val)) S1.size hh)).squeeze S_ squeezes_S1_S_ = xsem (Ring.sl 8 k.val) := xsem_congr (off24 k) _
@[sl_canon] theorem part25 (hh hs) : (xbM.slice (Rect.unit (s := S8x512x2048) (k0_off25 (w6 k.val)) S1x512x2048.size hh) hs).squeeze S512x2048 squeezes_S1x512x2048_S512x2048 = xslot (Ring.sl 8 k.val) := xslot_congr (off25 k) _ _
@[sl_canon] theorem part26 (hh hs) : xM.slice (Rect.unit (s := S16384x2048) (k0_off26 (w11 k.val)) S512x2048.size hh) hs = xblk (Ring.bk 32 k.val) := xblk_congr (off26 k) _ _
@[sl_canon] theorem part30 (hh) : (cc0_scoped3.slice (Rect.unit (s := Cert.KernelIdeal.S2) (k0_off30 (w6 k.val)) S1.size hh)).squeeze S_ squeezes_S1_S_ = osm (Ring.sl 2 k.val) := osm_congr (off30 k) _
@[sl_canon] theorem part31 (hh hs) : oM.slice (Rect.unit (s := S16384x2) (k0_off31 (w11 k.val)) S512x2.size hh) hs = oblk (Ring.bk 32 k.val) := oblk_congr (off31 k) _ _
@[sl_canon] theorem part32 (hh hs) : (obM.slice (Rect.unit (s := S2x512x2) (k0_off32 (w6 k.val)) S1x512x2.size hh) hs).squeeze S512x2 squeezes_S1x512x2_S512x2 = oslot (Ring.sl 2 k.val) := oslot_congr (off32 k) _ _
@[sl_canon] theorem part33 (hh) : (cc0_scoped5.slice (Rect.unit (s := Cert.KernelIdeal.S2) (k0_off33 (w6 k.val)) S1.size hh)).squeeze S_ squeezes_S1_S_ = ism (Ring.sl 2 k.val) := ism_congr (off33 k) _
@[sl_canon] theorem part34 (hh hs) : iM.slice (Rect.unit (s := S16384x2) (k0_off34 (w11 k.val)) S512x2.size hh) hs = iblkM (Ring.bk 32 k.val) := iblk_congr (off34 k) _ _
@[sl_canon] theorem part35 (hh hs) : (ibM.slice (Rect.unit (s := S2x512x2) (k0_off35 (w6 k.val)) S1x512x2.size hh) hs).squeeze S512x2 squeezes_S1x512x2_S512x2 = islot (Ring.sl 2 k.val) := islot_congr (off35 k) _ _
@[sl_canon] theorem part36 (h1 : 1 ≤ k.val) (hh) : (cc0_scoped3.slice (Rect.unit (s := Cert.KernelIdeal.S2) (k0_off36 (w8 k.val)) S1.size hh)).squeeze S_ squeezes_S1_S_ = osm (Ring.sl 2 (k.val + 1)) := osm_congr (off36 k h1) _
@[sl_canon] theorem part37 (h1 : 1 ≤ k.val) (hh hs) : oM.slice (Rect.unit (s := S16384x2) (k0_off37 (w11 k.val)) S512x2.size hh) hs = oblk (Ring.bk 32 (k.val - 1)) := oblk_congr (off37 k h1) _ _
@[sl_canon] theorem part38 (h1 : 1 ≤ k.val) (hh hs) : (obM.slice (Rect.unit (s := S2x512x2) (k0_off38 (w8 k.val)) S1x512x2.size hh) hs).squeeze S512x2 squeezes_S1x512x2_S512x2 = oslot (Ring.sl 2 (k.val + 1)) := oslot_congr (off38 k h1) _ _
@[sl_canon] theorem part39 (h1 : 1 ≤ k.val) (hh) : (cc0_scoped5.slice (Rect.unit (s := Cert.KernelIdeal.S2) (k0_off39 (w8 k.val)) S1.size hh)).squeeze S_ squeezes_S1_S_ = ism (Ring.sl 2 (k.val + 1)) := ism_congr (off39 k h1) _
@[sl_canon] theorem part40 (h1 : 1 ≤ k.val) (hh hs) : iM.slice (Rect.unit (s := S16384x2) (k0_off40 (w11 k.val)) S512x2.size hh) hs = iblkM (Ring.bk 32 (k.val - 1)) := iblk_congr (off40 k h1) _ _
@[sl_canon] theorem part41 (h1 : 1 ≤ k.val) (hh hs) : (ibM.slice (Rect.unit (s := S2x512x2) (k0_off41 (w8 k.val)) S1x512x2.size hh) hs).squeeze S512x2 squeezes_S1x512x2_S512x2 = islot (Ring.sl 2 (k.val + 1)) := islot_congr (off41 k h1) _ _
instance : ClosedOff (k0_off27 (w6 k.val)) := ⟨slotOff (Ring.sl 8 k.val), off27 k⟩
instance : ClosedOff (k0_off28 (w6 k.val)) := ⟨outOff (Ring.sl 2 k.val), off28 k⟩
instance : ClosedOff (k0_off29 (w6 k.val)) := ⟨outOff (Ring.sl 2 k.val), off29 k⟩
end Trip

/-! ## The last waits' parts -/

section Last
@[sl_canon] theorem part42 (hh) : (cc0_scoped3.slice (Rect.unit (s := Cert.KernelIdeal.S2) (k0_off42 31#32) S1.size hh)).squeeze S_ squeezes_S1_S_ = osm 1 := osm_congr (off42) _
@[sl_canon] theorem part43 (hh hs) : oM.slice (Rect.unit (s := S16384x2) (k0_off43 0#32) S512x2.size hh) hs = oblk 31 := oblk_congr (off43) _ _
@[sl_canon] theorem part44 (hh hs) : (obM.slice (Rect.unit (s := S2x512x2) (k0_off44 31#32) S1x512x2.size hh) hs).squeeze S512x2 squeezes_S1x512x2_S512x2 = oslot 1 := oslot_congr (off44) _ _
@[sl_canon] theorem part45 (hh) : (cc0_scoped5.slice (Rect.unit (s := Cert.KernelIdeal.S2) (k0_off45 31#32) S1.size hh)).squeeze S_ squeezes_S1_S_ = ism 1 := ism_congr (off45) _
@[sl_canon] theorem part46 (hh hs) : iM.slice (Rect.unit (s := S16384x2) (k0_off46 0#32) S512x2.size hh) hs = iblkM 31 := iblk_congr (off46) _ _
@[sl_canon] theorem part47 (hh hs) : (ibM.slice (Rect.unit (s := S2x512x2) (k0_off47 31#32) S1x512x2.size hh) hs).squeeze S512x2 squeezes_S1x512x2_S512x2 = islot 1 := islot_congr (off47) _ _
end Last

end Cert.Proof.Route

end
-- ==== Proof.Trip.lean ====
/-
  One trip of the kernel's loop: what is held before it, and what it leaves.
-/
module

public import proofs.«01_k».proof.Proof.Names

@[expose] public section

noncomputable section

namespace Cert.Proof.Route

open Cert.KernelIdeal Cert.KernelIdeal.Gen Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The library's accounts beside the counters the kernel's own transfers ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The pieces -/

section Pieces
variable (c : Dev nD) (X : Buf (Elt F) (xM.view.loc (c : Thread nD τ)))

abbrev xcellP (s : Fin 8) : sProp 𝕄 := semVal ((c : Thread nD τ), SemLoc.dma (xsem s).sem) 0
abbrev xslotP (s : Fin 8) (f : Buf (Elt F) ((xslot s).view.loc (c : Thread nD τ))) : sProp 𝕄 :=
  (xslot s).view.loc (c : Thread nD τ) ↦[(xslot s).view.set]{fullShare} f
/-- Block `b` of the rows, held on its elements. -/
abbrev xhomeP (b : Fin 32) : sProp 𝕄 := (xblk b).view.loc (c : Thread nD τ) ↦[(xblk b).view.set]{fullShare} X
/-- Slot `s` over `f` after block `b` has come into it. -/
abbrev xlanded (s : Fin 8) (b : Fin 32) (f : Buf (Elt F) ((xslot s).view.loc (c : Thread nD τ))) : Buf (Elt F) ((xslot s).view.loc (c : Thread nD τ)) :=
  (xslot s).view.writes (Elt F) f [⟨Rect.whole S512x2048, ReadAs.same.apply ((xblk b).view.read (Elt F) X)⟩]
/-- Block `b` on its way into slot `s`. -/
abbrev xflyP (s : Fin 8) (b : Fin 32) : sProp 𝕄 :=
  iprop(∃ f, Transfers.Flight countersEmb (c : Thread nD τ) (SemLoc.dma (xsem s).sem) () 131072 iprop(xslotP c s (xlanded c X s b f) ∗ xhomeP c X b))
/-- Slot `s` free. -/
abbrev xfreeP (s : Fin 8) : sProp 𝕄 := iprop(xcellP c s ∗ ∃ f, xslotP c s f)

abbrev ocellP (s : Fin 2) : sProp 𝕄 := semVal ((c : Thread nD τ), SemLoc.dma (osm s).sem) 0
abbrev oslotP (s : Fin 2) (f : Buf (Elt F) ((oslot s).view.loc (c : Thread nD τ))) : sProp 𝕄 :=
  (oslot s).view.loc (c : Thread nD τ) ↦[(oslot s).view.set]{fullShare} f
abbrev oblkP (b : Fin 32) (f : Buf (Elt F) ((oblk b).view.loc (c : Thread nD τ))) : sProp 𝕄 :=
  (oblk b).view.loc (c : Thread nD τ) ↦[(oblk b).view.set]{fullShare} f
abbrev icellP (s : Fin 2) : sProp 𝕄 := semVal ((c : Thread nD τ), SemLoc.dma (ism s).sem) 0
abbrev islotP (s : Fin 2) (f : Buf (Elt F) ((islot s).view.loc (c : Thread nD τ))) : sProp 𝕄 :=
  (islot s).view.loc (c : Thread nD τ) ↦[(islot s).view.set]{fullShare} f
abbrev iblkP (b : Fin 32) (f : Buf (Elt F) ((iblkM b).view.loc (c : Thread nD τ))) : sProp 𝕄 :=
  (iblkM b).view.loc (c : Thread nD τ) ↦[(iblkM b).view.set]{fullShare} f
abbrev ofreeP (s : Fin 2) : sProp 𝕄 := iprop(ocellP c s ∗ ∃ f, oslotP c s f)
abbrev ifreeP (s : Fin 2) : sProp 𝕄 := iprop(icellP c s ∗ ∃ f, islotP c s f)
end Pieces

/-! ## The values -/

section Values
/-- The logits of one block of rows. -/
def logitsOf (xb : FVec F S512x2048 .f32) (w : Vec F S2048x16 .f32) : FVec F S512x16 .f32 :=
  matmul dot_S512x2048_S2048x16_S512x16_1_0_0_1_n_n none xb w (constant S512x16 .f32 0x00000000#32)
/-- Each row's largest logit. -/
def rowmax (L : FVec F S512x16 .f32) : FVec F S512x1 .f32 :=
  shapeCast S512x1 (multiReduction .maximumf [1] S512 L 0xFF800000#32 reduces_S512x16_S512 (.inl rfl) rfl) shapeCasts_S512_S512x1
/-- The exponentials of the logits less their row's largest. -/
def expo (L : FVec F S512x16 .f32) : FVec F S512x16 .f32 :=
  exp (subf L (broadcastTo S512x16 (rowmax L) broadcasts_S512x1_S512x16))
/-- The two scores of each row of a block, from its logits. -/
def scoresOf (L : FVec F S512x16 .f32) : S512x2.Idx → Elt F .f32 :=
  shapeCast S512x2 (k0_pay7 L (rowmax L) (expo L)) shapeCasts_S1x512x2_S512x2
/-- The two indices of each row of a block, from its logits. -/
def indicesOf (L : FVec F S512x16 .f32) : S512x2.Idx → Elt F .i32 :=
  shapeCast S512x2 (k0_pay8 L (rowmax L)) shapeCasts_S1x512x2_S512x2

theorem pay1_eq (v : Vec F S1x512x2048 .f32) (w : Vec F S2048x16 .f32) :
    k0_pay1 v w = logitsOf (shapeCast S512x2048 v shapeCasts_S1x512x2048_S512x2048) w := rfl
theorem pay2_eq (v : Vec F S1x512x2048 .f32) (w : Vec F S2048x16 .f32) :
    k0_pay2 v w = rowmax (logitsOf (shapeCast S512x2048 v shapeCasts_S1x512x2048_S512x2048) w) := rfl
theorem pay3_eq (v : Vec F S1x512x2048 .f32) (w : Vec F S2048x16 .f32) :
    k0_pay3 v w = expo (logitsOf (shapeCast S512x2048 v shapeCasts_S1x512x2048_S512x2048) w) := rfl

omit [FloatOps F] in
/-- A load of slot `s` through the whole ring, shape-cast, is the slot read. -/
theorem load_slot {off : Fin 3 → Nat} {s : Fin 8} (e : off = slotOff s) (hh) (f : xbM.view.ty.Contents (Elt F)) :
    shapeCast S512x2048 (xbM.view.readAt (Elt F) (Rect.unit (s := S8x512x2048) off S1x512x2048.size hh).toLoadRect f) shapeCasts_S1x512x2048_S512x2048
      = (xslot s).view.read (Elt F) f := by subst e; rfl
omit [FloatOps F] in
/-- Slot `s` of the scores' ring, read after a store of it through the whole ring, is the stored vector shape-cast. -/
theorem store_oslot {off : Fin 3 → Nat} {s : Fin 2} (e : off = outOff s) (hh) (f : obM.view.ty.Contents (Elt F)) (v : S1x512x2.Idx → Elt F .f32) :
    (oslot s).view.read (Elt F) ((obM.access (Rect.unit (s := S2x512x2) off S1x512x2.size hh)).write (Elt F) f v Finset.univ)
      = shapeCast S512x2 v shapeCasts_S1x512x2_S512x2 := by
  subst e
  unfold oslot
  rw [Memref.read_squeeze_slice obM _ _ _ shapeCasts_S1x512x2_S512x2, View.readAt_rect, View.read_write_univ]
omit [FloatOps F] in
/-- The same for the indices' ring. -/
theorem store_islot {off : Fin 3 → Nat} {s : Fin 2} (e : off = outOff s) (hh) (f : ibM.view.ty.Contents (Elt F)) (v : S1x512x2.Idx → Elt F .i32) :
    (islot s).view.read (Elt F) ((ibM.access (Rect.unit (s := S2x512x2) off S1x512x2.size hh)).write (Elt F) f v Finset.univ)
      = shapeCast S512x2 v shapeCasts_S1x512x2_S512x2 := by
  subst e
  unfold islot
  rw [Memref.read_squeeze_slice ibM _ _ _ shapeCasts_S1x512x2_S512x2, View.readAt_rect, View.read_write_univ]
omit [FloatOps F] in
/-- A block of the scores, after the slot just stored has been copied whole over it, reads the stored vector. -/
theorem o_out {off : Fin 3 → Nat} {s : Fin 2} (e : off = outOff s) (hh) (b : Fin 32) (f : obM.view.ty.Contents (Elt F)) (g : (oblk b).view.ty.Contents (Elt F)) (v : S1x512x2.Idx → Elt F .f32) :
    (oblk b).view.read (Elt F) ((oblk b).view.writes (Elt F) g [⟨Rect.whole S512x2, ReadAs.same.apply ((oslot s).view.read (Elt F) ((obM.access (Rect.unit (s := S2x512x2) off S1x512x2.size hh)).write (Elt F) f v Finset.univ))⟩])
      = shapeCast S512x2 v shapeCasts_S1x512x2_S512x2 :=
  (View.read_writes_whole _ _ _).trans (store_oslot e hh f v)
omit [FloatOps F] in
/-- The same for a block of the indices. -/
theorem i_out {off : Fin 3 → Nat} {s : Fin 2} (e : off = outOff s) (hh) (b : Fin 32) (f : ibM.view.ty.Contents (Elt F)) (g : (iblkM b).view.ty.Contents (Elt F)) (v : S1x512x2.Idx → Elt F .i32) :
    (iblkM b).view.read (Elt F) ((iblkM b).view.writes (Elt F) g [⟨Rect.whole S512x2, ReadAs.same.apply ((islot s).view.read (Elt F) ((ibM.access (Rect.unit (s := S2x512x2) off S1x512x2.size hh)).write (Elt F) f v Finset.univ))⟩])
      = shapeCast S512x2 v shapeCasts_S1x512x2_S512x2 :=
  (View.read_writes_whole _ _ _).trans (store_islot e hh f v)
omit [FloatOps F] in
/-- Slot `s` just filled with block `b`, loaded through the whole ring and shape-cast, is the block. -/
theorem x_in {off : Fin 3 → Nat} {s : Fin 8} (e : off = slotOff s) (hh) (f : xbM.view.ty.Contents (Elt F)) (v : S512x2048.Idx → Elt F .f32) :
    shapeCast S512x2048 (xbM.view.readAt (Elt F) (Rect.unit (s := S8x512x2048) off S1x512x2048.size hh).toLoadRect
        ((xslot s).view.writes (Elt F) f [⟨Rect.whole S512x2048, ReadAs.same.apply v⟩])) shapeCasts_S1x512x2048_S512x2048 = v :=
  (load_slot e hh _).trans (View.read_writes_whole _ _ _)

theorem scoresOf_eq (L : FVec F S512x16 .f32) : shapeCast S512x2 (k0_pay7 L (rowmax L) (expo L)) shapeCasts_S1x512x2_S512x2 = scoresOf L := rfl
theorem indicesOf_eq (L : FVec F S512x16 .f32) : shapeCast S512x2 (k0_pay8 L (rowmax L)) shapeCasts_S1x512x2_S512x2 = indicesOf L := rfl
end Values

section Flights
variable (c : Dev nD)
/-- Block `b` of the scores on its way out of slot `s`, to read `v` when it is there. -/
abbrev oflyP (s : Fin 2) (b : Fin 32) (v : S512x2.Idx → Elt F .f32) : sProp 𝕄 :=
  iprop(∃ g f, ⌜(oblk b).view.read (Elt F) g = v⌝ ∗ Transfers.Flight countersEmb (c : Thread nD τ) (SemLoc.dma (osm s).sem) () 8192 iprop(oblkP c b g ∗ oslotP c s f))
/-- Block `b` of the scores there, reading `v`. -/
abbrev odoneP (b : Fin 32) (v : S512x2.Idx → Elt F .f32) : sProp 𝕄 := iprop(∃ g, ⌜(oblk b).view.read (Elt F) g = v⌝ ∗ oblkP c b g)
/-- Block `b` of the indices on its way out of slot `s`, to read `v` when it is there. -/
abbrev iflyP (s : Fin 2) (b : Fin 32) (v : S512x2.Idx → Elt F .i32) : sProp 𝕄 :=
  iprop(∃ g f, ⌜(iblkM b).view.read (Elt F) g = v⌝ ∗ Transfers.Flight countersEmb (c : Thread nD τ) (SemLoc.dma (ism s).sem) () 8192 iprop(iblkP c b g ∗ islotP c s f))
/-- Block `b` of the indices there, reading `v`. -/
abbrev idoneP (b : Fin 32) (v : S512x2.Idx → Elt F .i32) : sProp 𝕄 := iprop(∃ g, ⌜(iblkM b).view.read (Elt F) g = v⌝ ∗ iblkP c b g)
end Flights

/-- Four equal words make the carried tuples equal. -/
theorem ws_mk {a b d e : BitVec 32} {k : ℕ} (h : a = w5 k ∧ b = w6 k ∧ d = w8 k ∧ e = w11 k) : (a, b, b, d, b, d, e) = ws k := by
  obtain ⟨rfl, rfl, rfl, rfl⟩ := h; rfl

/-! ## One trip -/

/-- What the loop carries. -/
abbrev WT : Type := BitVec 32 × BitVec 32 × BitVec 32 × BitVec 32 × BitVec 32 × BitVec 32 × BitVec 32

section Trip
variable (c : Dev nD) (X : Buf (Elt F) (xM.view.loc (c : Thread nD τ)))
  (arg1 : Memref sig .tc .vmem S2048x16 .f32) (harg1 : arg1.IsWhole) (g : Buf (Elt F) (arg1.view.loc (c : Thread nD τ)))

/-- The staged weights, held whole. -/
abbrev wP : sProp 𝕄 := arg1.view.loc (c : Thread nD τ) ↦[arg1.view.set]{fullShare} g
/-- The weights the trip loads. -/
abbrev wv : Vec F S2048x16 .f32 := arg1.view.readAt (Elt F) (Rect.unit (s := S2048x16) ![0, 0] S2048x16.size inb_S2048x16_S2048x16_0_0).toLoadRect g
/-- Block `b`'s logits. -/
def lgs (b : Fin 32) : FVec F S512x16 .f32 := logitsOf ((xblk b).view.read (Elt F) X) (wv c arg1 g)
/-- Block `b`'s scores. -/
abbrev oval (b : Fin 32) : S512x2.Idx → Elt F .f32 := scoresOf (lgs c X arg1 g b)
/-- Block `b`'s indices. -/
abbrev ival (b : Fin 32) : S512x2.Idx → Elt F .i32 := indicesOf (lgs c X arg1 g b)

abbrev tripG (k : Fin k0_t1_loop.trips) : Prog (TpuEff nD τ sig (Elt F) Λ₀ .tc) WT :=
  k0_t1_body (F := F) xM (Memref.isWhole_whole _) arg1 harg1 oM (Memref.isWhole_whole _) iM (Memref.isWhole_whole _)
    xbM (Memref.isWhole_whole _) cc0_scoped1 obM (Memref.isWhole_whole _) cc0_scoped3 ibM (Memref.isWhole_whole _) cc0_scoped5
    7#32 0#32 k (ws k.val)

/-- What every trip takes: the weights, its block coming in, its output slots free, its output blocks. -/
abbrev TPRE (k : ℕ) : sProp 𝕄 :=
  iprop(wP c arg1 g ∗ (∃ W, owes (c : Thread nD τ) 0 W) ∗ xflyP c X (Ring.sl 8 k) (Ring.bk 32 k)
    ∗ ofreeP c (Ring.sl 2 k) ∗ ifreeP c (Ring.sl 2 k) ∗ (∃ f, oblkP c (Ring.bk 32 k) f) ∗ (∃ f, iblkP c (Ring.bk 32 k) f))
/-- What every trip leaves: the weights, its block home and its slot free, its output blocks on their way. -/
abbrev TPOST (k : ℕ) : sProp 𝕄 :=
  iprop(wP c arg1 g ∗ (∃ W, owes (c : Thread nD τ) 0 W) ∗ xhomeP c X (Ring.bk 32 k) ∗ xfreeP c (Ring.sl 8 k)
    ∗ oflyP c (Ring.sl 2 k) (Ring.bk 32 k) (oval c X arg1 g (Ring.bk 32 k)) ∗ iflyP c (Ring.sl 2 k) (Ring.bk 32 k) (ival c X arg1 g (Ring.bk 32 k)))
/-- What a trip that requests a block takes beside it; -/
abbrev NPRE (k : ℕ) : sProp 𝕄 := iprop(xhomeP c X (Ring.bk 32 (k + 7)) ∗ xfreeP c (Ring.sl 8 (k + 7)))
/-- and leaves. -/
abbrev NPOST (k : ℕ) : sProp 𝕄 := xflyP c X (Ring.sl 8 (k + 7)) (Ring.bk 32 (k + 7))
/-- What a trip after the first takes beside it; -/
abbrev BPRE (k : ℕ) (v : S512x2.Idx → Elt F .f32) (v' : S512x2.Idx → Elt F .i32) : sProp 𝕄 :=
  iprop(oflyP c (Ring.sl 2 (k + 1)) (Ring.bk 32 (k - 1)) v ∗ iflyP c (Ring.sl 2 (k + 1)) (Ring.bk 32 (k - 1)) v')
/-- and leaves. -/
abbrev BPOST (k : ℕ) (v : S512x2.Idx → Elt F .f32) (v' : S512x2.Idx → Elt F .i32) : sProp 𝕄 :=
  iprop(odoneP c (Ring.bk 32 (k - 1)) v ∗ idoneP c (Ring.bk 32 (k - 1)) v' ∗ ofreeP c (Ring.sl 2 (k + 1)) ∗ ifreeP c (Ring.sl 2 (k + 1)))

abbrev wpT (k : Fin k0_t1_loop.trips) (Q : WT → sProp 𝕄) : sProp 𝕄 :=
  wp frame (wpE (defs₀ (F := F)) 𝒱₀ (c : Thread nD τ) none) Set.univ (tripG arg1 harg1 k) Q

set_option backward.proofsInPublic true in
/-- A TRIP IN THE MIDDLE: it requests the block seven ahead and waits for the output block before. -/
theorem tripMid (k : Fin k0_t1_loop.trips) (h1 : 1 ≤ k.val) (hk : k.val + 7 < 32) (v : S512x2.Idx → Elt F .f32) (v' : S512x2.Idx → Elt F .i32) :
    iprop(TPRE c X arg1 g k.val ∗ NPRE c X k.val ∗ BPRE c k.val v v')
      ⊢ wpT c arg1 harg1 k (fun r => iprop(⌜r = ws (k.val + 1)⌝ ∗ TPOST c X arg1 g k.val ∗ NPOST c X k.val ∗ BPOST c k.val v v')) := by
  have e1 := chk1 k
  have e2 := chk2 k
  have e3 := chk3 k
  have e4 := chk4 k
  have c7 := cond7 k hk
  have c8 := cond8 k
  have c12 := cond12 k
  have c13 := cond13 k
  have c15 := cond15 k h1
  have c16 := cond16 k h1
  iintro ⟨⟨Hw, ⟨%W, HW⟩, ⟨%f0, HX⟩, ⟨Hoc, ⟨%f2, Hos⟩⟩, ⟨Hic, ⟨%f3, His⟩⟩, ⟨%oX, HoX⟩, ⟨%iX, HiX⟩⟩, ⟨Hn, Hnc, ⟨%f1, Hns⟩⟩, ⟨%oW, %oF, %ho, HoF⟩, ⟨%iW, %iF, %hi, HiF⟩⟩
  dsimp only [wpT, tripG]
  sl_unfold [k0_t1_body]
  sl_exec
  sl_step
  have hx : shapeCast S512x2048 (tripMid.sl.v249_r0 c X k e2) shapeCasts_S1x512x2048_S512x2048 = (xblk (Ring.bk 32 k.val)).view.read (Elt F) X := by
    unfold tripMid.sl.v249_r0
    exact x_in (off27 k) _ _ _
  have hr0 : tripMid.sl.r c X arg1 g k e2 = lgs c X arg1 g (Ring.bk 32 k.val) := by
    unfold tripMid.sl.r lgs; rw [pay1_eq, hx]
  have hr1 : tripMid.sl.r_1 c X arg1 g k e2 = rowmax (lgs c X arg1 g (Ring.bk 32 k.val)) := by
    unfold tripMid.sl.r_1 lgs; rw [pay2_eq, hx]
  have hr2 : tripMid.sl.r_2 c X arg1 g k e2 = expo (lgs c X arg1 g (Ring.bk 32 k.val)) := by
    unfold tripMid.sl.r_2 lgs; rw [pay3_eq, hx]
  isplitr
  · ipureintro
    exact ws_mk ((by decide +kernel : ∀ k : Fin k0_t1_loop.trips, 1 ≤ k.val → k.val + 7 < 32 →
      tripMid.sl.v218_r0 k = w5 (k.val + 1) ∧ tripMid.sl.v305_r0 k = w6 (k.val + 1) ∧ tripMid.sl.v326_r0 k = w8 (k.val + 1) ∧ tripMid.sl.v172_r0 k = w11 (k.val + 1)) k h1 hk)
  isplitl [Hw HW HX_src HX HX_dst Hoc Hic]
  · isplitl [Hw]; · iexact Hw
    isplitl [HW]; · iexists _; iexact HW
    isplitl [HX_src]; · iexact HX_src
    isplitl [HX HX_dst]
    · isplitl [HX]; · iexact HX
      iexists _; iexact HX_dst
    isplitl [Hoc]
    · iexists _, _; isplitr
      rotate_left
      · iexact Hoc
      · ipureintro
        unfold tripMid.sl.dma6 tripMid.sl.Hos_w1
        refine (o_out (off28 k) _ _ _ _ _).trans ?_
        rw [hr0, hr1, hr2]; exact scoresOf_eq _
    · iexists _, _; isplitr
      rotate_left
      · iexact Hic
      · ipureintro
        unfold tripMid.sl.dma6_1 tripMid.sl.His_w2
        refine (i_out (off29 k) _ _ _ _ _).trans ?_
        rw [hr0, hr1]; exact indicesOf_eq _
  isplitl [Hnc]
  · iexists f1; iexact Hnc
  isplitl [HoF_dst]
  · iexists _; isplitr; · ipureintro; exact ho
    iexact HoF_dst
  isplitl [HiF_dst]
  · iexists _; isplitr; · ipureintro; exact hi
    iexact HiF_dst
  isplitl [HoF HoF_src]
  · isplitl [HoF]; · iexact HoF
    iexists _; iexact HoF_src
  isplitl [HiF]; · iexact HiF
  iexists _; iexact HiF_src

set_option backward.proofsInPublic true in
/-- THE FIRST TRIP: it requests block 7; there is no output block before. -/
theorem tripHead (k : Fin k0_t1_loop.trips) (h1 : k.val = 0) (hk : k.val + 7 < 32) (v : S512x2.Idx → Elt F .f32) (v' : S512x2.Idx → Elt F .i32) :
    iprop(TPRE c X arg1 g k.val ∗ NPRE c X k.val)
      ⊢ wpT c arg1 harg1 k (fun r => iprop(⌜r = ws (k.val + 1)⌝ ∗ TPOST c X arg1 g k.val ∗ NPOST c X k.val)) := by
  have e1 := chk1 k
  have e2 := chk2 k
  have e3 := chk3 k
  have e4 := chk4 k
  have c7 := cond7 k hk
  have c8 := cond8 k
  have c12 := cond12 k
  have c13 := cond13 k
  have c15 := cond15' k h1
  have c16 := cond16' k h1
  iintro ⟨⟨Hw, ⟨%W, HW⟩, ⟨%f0, HX⟩, ⟨Hoc, ⟨%f2, Hos⟩⟩, ⟨Hic, ⟨%f3, His⟩⟩, ⟨%oX, HoX⟩, ⟨%iX, HiX⟩⟩, ⟨Hn, Hnc, ⟨%f1, Hns⟩⟩⟩
  dsimp only [wpT, tripG]
  sl_unfold [k0_t1_body]
  sl_exec
  sl_step
  have hx : shapeCast S512x2048 (tripHead.sl.v249_r0 c X k e2) shapeCasts_S1x512x2048_S512x2048 = (xblk (Ring.bk 32 k.val)).view.read (Elt F) X := by
    unfold tripHead.sl.v249_r0
    exact x_in (off27 k) _ _ _
  have hr0 : tripHead.sl.r c X arg1 g k e2 = lgs c X arg1 g (Ring.bk 32 k.val) := by
    unfold tripHead.sl.r lgs; rw [pay1_eq, hx]
  have hr1 : tripHead.sl.r_1 c X arg1 g k e2 = rowmax (lgs c X arg1 g (Ring.bk 32 k.val)) := by
    unfold tripHead.sl.r_1 lgs; rw [pay2_eq, hx]
  have hr2 : tripHead.sl.r_2 c X arg1 g k e2 = expo (lgs c X arg1 g (Ring.bk 32 k.val)) := by
    unfold tripHead.sl.r_2 lgs; rw [pay3_eq, hx]
  isplitr
  · ipureintro
    exact ws_mk ((by decide +kernel : ∀ k : Fin k0_t1_loop.trips, k.val = 0 → k.val + 7 < 32 →
      tripHead.sl.v218_r0 k = w5 (k.val + 1) ∧ tripHead.sl.v305_r0 k = w6 (k.val + 1) ∧ tripHead.sl.v326_r0 k = w8 (k.val + 1) ∧ tripHead.sl.v172_r0 k = w11 (k.val + 1)) k h1 hk)
  isplitl [Hw HW HX_src HX HX_dst Hoc Hic]
  · isplitl [Hw]; · iexact Hw
    isplitl [HW]; · iexists _; iexact HW
    isplitl [HX_src]; · iexact HX_src
    isplitl [HX HX_dst]
    · isplitl [HX]; · iexact HX
      iexists _; iexact HX_dst
    isplitl [Hoc]
    · iexists _, _; isplitr
      rotate_left
      · iexact Hoc
      · ipureintro
        unfold tripHead.sl.dma6 tripHead.sl.Hos_w1
        refine (o_out (off28 k) _ _ _ _ _).trans ?_
        rw [hr0, hr1, hr2]; exact scoresOf_eq _
    · iexists _, _; isplitr
      rotate_left
      · iexact Hic
      · ipureintro
        unfold tripHead.sl.dma6_1 tripHead.sl.His_w2
        refine (i_out (off29 k) _ _ _ _ _).trans ?_
        rw [hr0, hr1]; exact indicesOf_eq _
  iexists f1; iexact Hnc

set_option backward.proofsInPublic true in
/-- A TRIP OF THE LAST SEVEN: there is no block left to request. -/
theorem tripTail (k : Fin k0_t1_loop.trips) (h1 : 1 ≤ k.val) (hk : 32 ≤ k.val + 7) (v : S512x2.Idx → Elt F .f32) (v' : S512x2.Idx → Elt F .i32) :
    iprop(TPRE c X arg1 g k.val ∗ BPRE c k.val v v')
      ⊢ wpT c arg1 harg1 k (fun r => iprop(⌜r = ws (k.val + 1)⌝ ∗ TPOST c X arg1 g k.val ∗ BPOST c k.val v v')) := by
  have e1 := chk1 k
  have e2 := chk2 k
  have e3 := chk3 k
  have e4 := chk4 k
  have c7 := cond7' k hk
  have c8 := cond8 k
  have c12 := cond12 k
  have c13 := cond13 k
  have c15 := cond15 k h1
  have c16 := cond16 k h1
  iintro ⟨⟨Hw, ⟨%W, HW⟩, ⟨%f0, HX⟩, ⟨Hoc, ⟨%f2, Hos⟩⟩, ⟨Hic, ⟨%f3, His⟩⟩, ⟨%oX, HoX⟩, ⟨%iX, HiX⟩⟩, ⟨%oW, %oF, %ho, HoF⟩, ⟨%iW, %iF, %hi, HiF⟩⟩
  dsimp only [wpT, tripG]
  sl_unfold [k0_t1_body]
  sl_exec
  sl_step
  have hx : shapeCast S512x2048 (tripTail.sl.v249_r0 c X k e2) shapeCasts_S1x512x2048_S512x2048 = (xblk (Ring.bk 32 k.val)).view.read (Elt F) X := by
    unfold tripTail.sl.v249_r0
    exact x_in (off27 k) _ _ _
  have hr0 : tripTail.sl.r c X arg1 g k e2 = lgs c X arg1 g (Ring.bk 32 k.val) := by
    unfold tripTail.sl.r lgs; rw [pay1_eq, hx]
  have hr1 : tripTail.sl.r_1 c X arg1 g k e2 = rowmax (lgs c X arg1 g (Ring.bk 32 k.val)) := by
    unfold tripTail.sl.r_1 lgs; rw [pay2_eq, hx]
  have hr2 : tripTail.sl.r_2 c X arg1 g k e2 = expo (lgs c X arg1 g (Ring.bk 32 k.val)) := by
    unfold tripTail.sl.r_2 lgs; rw [pay3_eq, hx]
  isplitr
  · ipureintro
    exact ws_mk ((by decide +kernel : ∀ k : Fin k0_t1_loop.trips, 1 ≤ k.val → 32 ≤ k.val + 7 →
      tripTail.sl.v218_r0 k = w5 (k.val + 1) ∧ tripTail.sl.v305_r0 k = w6 (k.val + 1) ∧ tripTail.sl.v326_r0 k = w8 (k.val + 1) ∧ tripTail.sl.v172_r0 k = w11 (k.val + 1)) k h1 hk)
  isplitl [Hw HW HX_src HX HX_dst Hoc Hic]
  · isplitl [Hw]; · iexact Hw
    isplitl [HW]; · iexists _; iexact HW
    isplitl [HX_src]; · iexact HX_src
    isplitl [HX HX_dst]
    · isplitl [HX]; · iexact HX
      iexists _; iexact HX_dst
    isplitl [Hoc]
    · iexists _, _; isplitr
      rotate_left
      · iexact Hoc
      · ipureintro
        unfold tripTail.sl.dma6 tripTail.sl.Hos_w1
        refine (o_out (off28 k) _ _ _ _ _).trans ?_
        rw [hr0, hr1, hr2]; exact scoresOf_eq _
    · iexists _, _; isplitr
      rotate_left
      · iexact Hic
      · ipureintro
        unfold tripTail.sl.dma6_1 tripTail.sl.His_w2
        refine (i_out (off29 k) _ _ _ _ _).trans ?_
        rw [hr0, hr1]; exact indicesOf_eq _
  isplitl [HoF_dst]
  · iexists _; isplitr; · ipureintro; exact ho
    iexact HoF_dst
  isplitl [HiF_dst]
  · iexists _; isplitr; · ipureintro; exact hi
    iexact HiF_dst
  isplitl [HoF HoF_src]
  · isplitl [HoF]; · iexact HoF
    iexists _; iexact HoF_src
  isplitl [HiF]; · iexact HiF
  iexists _; iexact HiF_src

end Trip

end Cert.Proof.Route

end
-- ==== Proof.Loop.lean ====
/-
  The kernel's loop: its invariant, kept by every trip.
-/
module

public import proofs.«01_k».proof.Proof.Trip

@[expose] public section

noncomputable section

namespace Cert.Proof.Route

open Cert.KernelIdeal Cert.KernelIdeal.Gen Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Families over the blocks and the slots -/

section Families

omit [FloatOps F] in
/-- The blocks from `k` on, below `hi`, are block `k` and those from `k + 1` on. -/
theorem from_head (Φ : Fin 32 → sProp 𝕄) {k hi : ℕ} (h : k < hi) (hk : k < 32) :
    bigSep (Ring.rangeSet 32 k hi) Φ = iprop(Φ (Ring.bk 32 k) ∗ bigSep (Ring.rangeSet 32 (k + 1) hi) Φ) := by
  rw [Ring.bigSep_rangeSet_head h hk]
  rw [show (⟨k, hk⟩ : Fin 32) = Ring.bk 32 k from Fin.ext (Ring.bk_val hk).symm]
omit [FloatOps F] in
/-- The blocks from `lo` to `k` are block `k` and those before. -/
theorem upto_last (Φ : Fin 32 → sProp 𝕄) {lo k : ℕ} (h : lo ≤ k) (hk : k < 32) :
    bigSep (Ring.rangeSet 32 lo (k + 1)) Φ = iprop(Φ (Ring.bk 32 k) ∗ bigSep (Ring.rangeSet 32 lo k) Φ) := by
  have e : Ring.rangeSet 32 lo (k + 1) = insert (Ring.bk 32 k) (Ring.rangeSet 32 lo k) := by
    ext b; simp only [Finset.mem_insert, Ring.mem_rangeSet, Fin.ext_iff, Ring.bk_val hk]; omega
  have hn : Ring.bk 32 k ∉ Ring.rangeSet 32 lo k := by
    simp only [Ring.mem_rangeSet, Ring.bk_val hk]; omega
  rw [e, bigSep_insert hn]; rfl
omit [FloatOps F] in
/-- There is no block past the last. -/
theorem upto_past (Φ : Fin 32 → sProp 𝕄) {lo k : ℕ} (hk : 32 ≤ k) :
    bigSep (Ring.rangeSet 32 lo (k + 1)) Φ = bigSep (Ring.rangeSet 32 lo k) Φ := by
  have e : Ring.rangeSet 32 lo (k + 1) = Ring.rangeSet 32 lo k := by
    ext b; have := b.isLt; simp only [Ring.mem_rangeSet]; omega
  rw [e]
omit [FloatOps F] in
theorem ico_one (Φ : ℕ → sProp 𝕄) (k : ℕ) : bigSep (Finset.Ico k (k + 1)) Φ = Φ k := by
  rw [show Finset.Ico k (k + 1) = {k} from by ext; simp, bigSep_singleton]
omit [FloatOps F] in
theorem ico_last (Φ : ℕ → sProp 𝕄) {lo k : ℕ} (h : lo ≤ k) :
    bigSep (Finset.Ico lo (k + 1)) Φ = iprop(Φ k ∗ bigSep (Finset.Ico lo k) Φ) := by
  rw [show Finset.Ico lo (k + 1) = insert k (Finset.Ico lo k) from by ext; simp; omega, bigSep_insert (by simp)]; rfl

end Families

/-! ## The invariant -/

section Inv
variable (c : Dev nD) (X : Buf (Elt F) (xM.view.loc (c : Thread nD τ)))
  (arg1 : Memref sig .tc .vmem S2048x16 .f32) (harg1 : arg1.IsWhole) (g : Buf (Elt F) (arg1.view.loc (c : Thread nD τ)))

/-- Block `b` coming into its slot. -/
def comingP (b : Fin 32) : sProp 𝕄 := xflyP c X (Ring.sl 8 b.val) b
/-- The slot of block `v` free. -/
def spareP (v : ℕ) : sProp 𝕄 := xfreeP c (Ring.sl 8 v)
/-- Block `b` of the scores not written yet; -/
def oaheadP (b : Fin 32) : sProp 𝕄 := iprop(∃ f, oblkP c b f)
/-- written; -/
def obehindP (b : Fin 32) : sProp 𝕄 := odoneP c b (oval c X arg1 g b)
/-- the other slot before trip `k`: free at first, then with the block before on its way. -/
def oroleP (k : ℕ) : sProp 𝕄 :=
  if k = 0 then ofreeP c (Ring.sl 2 (k + 1)) else oflyP c (Ring.sl 2 (k + 1)) (Ring.bk 32 (k - 1)) (oval c X arg1 g (Ring.bk 32 (k - 1)))
/-- The same for the indices. -/
def iaheadP (b : Fin 32) : sProp 𝕄 := iprop(∃ f, iblkP c b f)
def ibehindP (b : Fin 32) : sProp 𝕄 := idoneP c b (ival c X arg1 g b)
def iroleP (k : ℕ) : sProp 𝕄 :=
  if k = 0 then ifreeP c (Ring.sl 2 (k + 1)) else iflyP c (Ring.sl 2 (k + 1)) (Ring.bk 32 (k - 1)) (ival c X arg1 g (Ring.bk 32 (k - 1)))

/-- What is held before trip `k`: the weights; the rows' blocks not on their way; the seven blocks from `k` on coming
    in, in the slots of their numbers, the other slots free; of either result one slot free, the other with block
    `k - 1` on its way out, the blocks before it written and those from `k` on not yet. -/
@[irreducible] def resAt (k : ℕ) : sProp 𝕄 :=
  iprop(wP c arg1 g ∗ (∃ W, owes (c : Thread nD τ) 0 W)
    ∗ bigSep (Ring.homeSet 7 k) (xhomeP c X)
    ∗ bigSep (Ring.rangeSet 32 k (k + 7)) (comingP c X)
    ∗ bigSep (Finset.Ico (min (k + 7) 32) (k + 8)) (spareP (F := F) c)
    ∗ ofreeP c (Ring.sl 2 k) ∗ oroleP c X arg1 g k
    ∗ bigSep (Ring.rangeSet 32 0 (k - 1)) (obehindP c X arg1 g) ∗ bigSep (Ring.rangeSet 32 k 32) (oaheadP (F := F) c)
    ∗ ifreeP c (Ring.sl 2 k) ∗ iroleP c X arg1 g k
    ∗ bigSep (Ring.rangeSet 32 0 (k - 1)) (ibehindP c X arg1 g) ∗ bigSep (Ring.rangeSet 32 k 32) (iaheadP (F := F) c))

theorem homes_here (k : ℕ) (hk : k + 7 < 32) :
    bigSep (Ring.homeSet 7 k) (xhomeP c X) = iprop(xhomeP c X (Ring.bk 32 (k + 7)) ∗ bigSep ((Ring.homeSet 7 k).erase (Ring.bk 32 (k + 7))) (xhomeP c X)) := by
  conv_lhs => rw [Ring.homeSet_out 7 k hk, bigSep_insert (Ring.bkL_not_mem_erase 7 k)]
  rfl
theorem homes_next (k : ℕ) (hk : k + 7 < 32) :
    bigSep (Ring.homeSet 7 (k + 1)) (xhomeP c X) = iprop(xhomeP c X (Ring.bk 32 k) ∗ bigSep ((Ring.homeSet 7 k).erase (Ring.bk 32 (k + 7))) (xhomeP c X)) := by
  conv_lhs => rw [Ring.homeSet_succ 7 k hk, bigSep_insert (Ring.bk_not_mem_erase 7 k (by omega) (by decide))]
  rfl
theorem homes_tail (k : ℕ) (hk : 32 ≤ k + 7) (hk' : k < 32) :
    bigSep (Ring.homeSet 7 (k + 1)) (xhomeP c X) = iprop(xhomeP c X (Ring.bk 32 k) ∗ bigSep (Ring.homeSet 7 k) (xhomeP c X)) := by
  conv_lhs => rw [Ring.homeSet_succ_tail 7 k hk hk', bigSep_insert (Ring.bk_not_mem_homeSet 7 k (by omega) (by decide))]
  rfl

theorem coming_bk {k : ℕ} (hk : k < 32) : comingP c X (Ring.bk 32 k) = xflyP c X (Ring.sl 8 k) (Ring.bk 32 k) := by
  unfold comingP; rw [Ring.bk_val hk]
theorem oahead_at (b : Fin 32) : oaheadP (F := F) c b = iprop(∃ f, oblkP c b f) := rfl
theorem iahead_at (b : Fin 32) : iaheadP (F := F) c b = iprop(∃ f, iblkP c b f) := rfl
theorem obehind_at (b : Fin 32) : obehindP c X arg1 g b = odoneP c b (oval c X arg1 g b) := rfl
theorem ibehind_at (b : Fin 32) : ibehindP c X arg1 g b = idoneP c b (ival c X arg1 g b) := rfl
theorem spare_add (k : ℕ) : spareP (F := F) c (k + 8) = xfreeP c (Ring.sl 8 k) := by unfold spareP; rw [Ring.sl_add]
theorem orole_zero {k : ℕ} (h : k = 0) : oroleP c X arg1 g k = ofreeP c (Ring.sl 2 (k + 1)) := if_pos h
theorem irole_zero {k : ℕ} (h : k = 0) : iroleP c X arg1 g k = ifreeP c (Ring.sl 2 (k + 1)) := if_pos h
theorem orole_pos {k : ℕ} (h : 1 ≤ k) :
    oroleP c X arg1 g k = oflyP c (Ring.sl 2 (k + 1)) (Ring.bk 32 (k - 1)) (oval c X arg1 g (Ring.bk 32 (k - 1))) := if_neg (by omega)
theorem irole_pos {k : ℕ} (h : 1 ≤ k) :
    iroleP c X arg1 g k = iflyP c (Ring.sl 2 (k + 1)) (Ring.bk 32 (k - 1)) (ival c X arg1 g (Ring.bk 32 (k - 1))) := if_neg (by omega)
theorem orole_succ (k : ℕ) : oroleP c X arg1 g (k + 1) = oflyP c (Ring.sl 2 k) (Ring.bk 32 k) (oval c X arg1 g (Ring.bk 32 k)) := by
  rw [orole_pos c X arg1 g (by omega), show k + 1 + 1 = k + 2 from rfl, Ring.sl_add, show k + 1 - 1 = k from rfl]
theorem irole_succ (k : ℕ) : iroleP c X arg1 g (k + 1) = iflyP c (Ring.sl 2 k) (Ring.bk 32 k) (ival c X arg1 g (Ring.bk 32 k)) := by
  rw [irole_pos c X arg1 g (by omega), show k + 1 + 1 = k + 2 from rfl, Ring.sl_add, show k + 1 - 1 = k from rfl]

/-- The first trip keeps the invariant; -/
theorem stepHead (k : Fin k0_t1_loop.trips) (h1 : k.val = 0) :
    resAt c X arg1 g k.val ⊢ wpT c arg1 harg1 k (fun r => iprop(⌜r = ws (k.val + 1)⌝ ∗ resAt c X arg1 g (k.val + 1))) := by
  have hk : k.val + 7 < 32 := by omega
  unfold resAt
  rw [homes_here c X k.val hk, homes_next c X k.val hk,
    from_head (comingP c X) (show k.val < k.val + 7 by omega) (by omega), show k.val + 1 + 7 = k.val + 7 + 1 by omega,
    upto_last (comingP c X) (show k.val + 1 ≤ k.val + 7 by omega) hk, coming_bk c X (show k.val < 32 by omega), coming_bk c X hk,
    show min (k.val + 7) 32 = k.val + 7 by omega, show k.val + 8 = k.val + 7 + 1 from rfl, ico_one (spareP c),
    show min (k.val + 7 + 1) 32 = k.val + 8 by omega, show k.val + 1 + 8 = k.val + 8 + 1 from by omega, ico_one (spareP c), spare_add,
    orole_zero c X arg1 g h1, irole_zero c X arg1 g h1, orole_succ, irole_succ,
    from_head (oaheadP c) (show k.val < 32 by omega) (by omega), from_head (iaheadP c) (show k.val < 32 by omega) (by omega), oahead_at, iahead_at,
    show k.val - 1 = k.val + 1 - 1 by omega]
  unfold spareP
  iintro ⟨Hw, HW, ⟨Hn, Hh⟩, ⟨HX, HF⟩, Hns, Ho, Ho', Hob, ⟨Hoa, Hoas⟩, Hi, Hi', Hib, ⟨Hia, Hias⟩⟩
  iapply (wp_wand_r Idealize.ShloMosaic.frame (wpE (defs₀ (F := F)) 𝒱₀ (c : Thread nD τ) none) Set.univ)
  isplitl [Hw HW HX Ho Hi Hoa Hia Hn Hns]
  · iapply (tripHead c X arg1 harg1 g k h1 hk (oval c X arg1 g 0) (ival c X arg1 g 0))
    isplitl [Hw HW HX Ho Hi Hoa Hia]
    · isplitl [Hw]; · iexact Hw
      isplitl [HW]; · iexact HW
      isplitl [HX]; · iexact HX
      isplitl [Ho]; · iexact Ho
      isplitl [Hi]; · iexact Hi
      isplitl [Hoa]; · iexact Hoa
      iexact Hia
    isplitl [Hn]; · iexact Hn
    iexact Hns
  iintro %r ⟨%hr, ⟨Hw, HW, Hx, Hxf, Hof, Hif⟩, Hnf⟩
  isplitr; · ipureintro; exact hr
  isplitl [Hw]; · iexact Hw
  isplitl [HW]; · iexact HW
  isplitl [Hx Hh]
  · isplitl [Hx]; · iexact Hx
    iexact Hh
  isplitl [HF Hnf]
  · isplitl [Hnf]; · iexact Hnf
    iexact HF
  isplitl [Hxf]; · iexact Hxf
  isplitl [Ho']; · iexact Ho'
  isplitl [Hof]; · iexact Hof
  isplitl [Hob]; · iexact Hob
  isplitl [Hoas]; · iexact Hoas
  isplitl [Hi']; · iexact Hi'
  isplitl [Hif]; · iexact Hif
  isplitl [Hib]; · iexact Hib
  iexact Hias

/-- a trip in the middle does; -/
theorem stepMid (k : Fin k0_t1_loop.trips) (h1 : 1 ≤ k.val) (hk : k.val + 7 < 32) :
    resAt c X arg1 g k.val ⊢ wpT c arg1 harg1 k (fun r => iprop(⌜r = ws (k.val + 1)⌝ ∗ resAt c X arg1 g (k.val + 1))) := by
  unfold resAt
  rw [homes_here c X k.val hk, homes_next c X k.val hk,
    from_head (comingP c X) (show k.val < k.val + 7 by omega) (by omega), show k.val + 1 + 7 = k.val + 7 + 1 by omega,
    upto_last (comingP c X) (show k.val + 1 ≤ k.val + 7 by omega) hk, coming_bk c X (show k.val < 32 by omega), coming_bk c X hk,
    show min (k.val + 7) 32 = k.val + 7 by omega, show k.val + 8 = k.val + 7 + 1 from rfl, ico_one (spareP c),
    show min (k.val + 7 + 1) 32 = k.val + 8 by omega, show k.val + 1 + 8 = k.val + 8 + 1 from by omega, ico_one (spareP c), spare_add,
    orole_pos c X arg1 g h1, irole_pos c X arg1 g h1, orole_succ, irole_succ,
    from_head (oaheadP c) (show k.val < 32 by omega) (by omega), from_head (iaheadP c) (show k.val < 32 by omega) (by omega), oahead_at, iahead_at,
    show k.val + 1 - 1 = k.val - 1 + 1 by omega, upto_last (obehindP c X arg1 g) (Nat.zero_le _) (by omega), upto_last (ibehindP c X arg1 g) (Nat.zero_le _) (by omega), obehind_at, ibehind_at]
  unfold spareP
  iintro ⟨Hw, HW, ⟨Hn, Hh⟩, ⟨HX, HF⟩, Hns, Ho, Ho', Hob, ⟨Hoa, Hoas⟩, Hi, Hi', Hib, ⟨Hia, Hias⟩⟩
  iapply (wp_wand_r Idealize.ShloMosaic.frame (wpE (defs₀ (F := F)) 𝒱₀ (c : Thread nD τ) none) Set.univ)
  isplitl [Hw HW HX Ho Hi Hoa Hia Hn Hns Ho' Hi']
  · iapply (tripMid c X arg1 harg1 g k h1 hk (oval c X arg1 g (Ring.bk 32 (k.val - 1))) (ival c X arg1 g (Ring.bk 32 (k.val - 1))))
    isplitl [Hw HW HX Ho Hi Hoa Hia]
    · isplitl [Hw]; · iexact Hw
      isplitl [HW]; · iexact HW
      isplitl [HX]; · iexact HX
      isplitl [Ho]; · iexact Ho
      isplitl [Hi]; · iexact Hi
      isplitl [Hoa]; · iexact Hoa
      iexact Hia
    isplitl [Hn Hns]
    · isplitl [Hn]; · iexact Hn
      iexact Hns
    isplitl [Ho']; · iexact Ho'
    iexact Hi'
  iintro %r ⟨%hr, ⟨Hw, HW, Hx, Hxf, Hof, Hif⟩, Hnf, Hod, Hid, Ho', Hi'⟩
  isplitr; · ipureintro; exact hr
  isplitl [Hw]; · iexact Hw
  isplitl [HW]; · iexact HW
  isplitl [Hx Hh]
  · isplitl [Hx]; · iexact Hx
    iexact Hh
  isplitl [HF Hnf]
  · isplitl [Hnf]; · iexact Hnf
    iexact HF
  isplitl [Hxf]; · iexact Hxf
  isplitl [Ho']; · iexact Ho'
  isplitl [Hof]; · iexact Hof
  isplitl [Hob Hod]
  · isplitl [Hod]; · iexact Hod
    iexact Hob
  isplitl [Hoas]; · iexact Hoas
  isplitl [Hi']; · iexact Hi'
  isplitl [Hif]; · iexact Hif
  isplitl [Hib Hid]
  · isplitl [Hid]; · iexact Hid
    iexact Hib
  iexact Hias

/-- and so does one of the last seven. -/
theorem stepTail (k : Fin k0_t1_loop.trips) (hk : 32 ≤ k.val + 7) :
    resAt c X arg1 g k.val ⊢ wpT c arg1 harg1 k (fun r => iprop(⌜r = ws (k.val + 1)⌝ ∗ resAt c X arg1 g (k.val + 1))) := by
  have h1 : 1 ≤ k.val := by omega
  have hk' := trip_lt k
  unfold resAt
  rw [homes_tail c X k.val hk hk',
    from_head (comingP c X) (show k.val < k.val + 7 by omega) hk', show k.val + 1 + 7 = k.val + 7 + 1 by omega,
    upto_past (comingP c X) hk, coming_bk c X hk',
    show min (k.val + 7) 32 = 32 by omega, show min (k.val + 7 + 1) 32 = 32 by omega,
    show k.val + 1 + 8 = k.val + 8 + 1 from by omega, ico_last (spareP c) (show 32 ≤ k.val + 8 by omega), spare_add,
    orole_pos c X arg1 g h1, irole_pos c X arg1 g h1, orole_succ, irole_succ,
    from_head (oaheadP c) (show k.val < 32 by omega) (by omega), from_head (iaheadP c) (show k.val < 32 by omega) (by omega), oahead_at, iahead_at,
    show k.val + 1 - 1 = k.val - 1 + 1 by omega, upto_last (obehindP c X arg1 g) (Nat.zero_le _) (by omega), upto_last (ibehindP c X arg1 g) (Nat.zero_le _) (by omega), obehind_at, ibehind_at]
  iintro ⟨Hw, HW, Hh, ⟨HX, HF⟩, Hns, Ho, Ho', Hob, ⟨Hoa, Hoas⟩, Hi, Hi', Hib, ⟨Hia, Hias⟩⟩
  iapply (wp_wand_r Idealize.ShloMosaic.frame (wpE (defs₀ (F := F)) 𝒱₀ (c : Thread nD τ) none) Set.univ)
  isplitl [Hw HW HX Ho Hi Hoa Hia Ho' Hi']
  · iapply (tripTail c X arg1 harg1 g k h1 hk (oval c X arg1 g (Ring.bk 32 (k.val - 1))) (ival c X arg1 g (Ring.bk 32 (k.val - 1))))
    isplitl [Hw HW HX Ho Hi Hoa Hia]
    · isplitl [Hw]; · iexact Hw
      isplitl [HW]; · iexact HW
      isplitl [HX]; · iexact HX
      isplitl [Ho]; · iexact Ho
      isplitl [Hi]; · iexact Hi
      isplitl [Hoa]; · iexact Hoa
      iexact Hia
    isplitl [Ho']; · iexact Ho'
    iexact Hi'
  iintro %r ⟨%hr, ⟨Hw, HW, Hx, Hxf, Hof, Hif⟩, Hod, Hid, Ho', Hi'⟩
  isplitr; · ipureintro; exact hr
  isplitl [Hw]; · iexact Hw
  isplitl [HW]; · iexact HW
  isplitl [Hx Hh]
  · isplitl [Hx]; · iexact Hx
    iexact Hh
  isplitl [HF]; · iexact HF
  isplitl [Hxf Hns]
  · isplitl [Hxf]; · iexact Hxf
    iexact Hns
  isplitl [Ho']; · iexact Ho'
  isplitl [Hof]; · iexact Hof
  isplitl [Hob Hod]
  · isplitl [Hod]; · iexact Hod
    iexact Hob
  isplitl [Hoas]; · iexact Hoas
  isplitl [Hi']; · iexact Hi'
  isplitl [Hif]; · iexact Hif
  isplitl [Hib Hid]
  · isplitl [Hid]; · iexact Hid
    iexact Hib
  iexact Hias

/-- So every trip does. -/
theorem stepAll (k : Fin k0_t1_loop.trips) :
    resAt c X arg1 g k.val ⊢ wpT c arg1 harg1 k (fun r => iprop(⌜r = ws (k.val + 1)⌝ ∗ resAt c X arg1 g (k.val + 1))) := by
  rcases Nat.lt_or_ge (k.val + 7) 32 with hk | hk
  · rcases Nat.eq_zero_or_pos k.val with h | h
    · exact stepHead c X arg1 harg1 g k h
    · exact stepMid c X arg1 harg1 g k h hk
  · exact stepTail c X arg1 harg1 g k hk

set_option warn.classDefReducibility false in
/-- THE LOOP'S INVARIANT: before trip `k` the carried words are `ws k` and `resAt k` is held. -/
@[sl_loop] def loopInv (v94 c0 : BitVec 32) (init : WT) :
    LoopInvTy_k0_t1 (F := F) Unit ℕ (UU nD τ) ℕ 𝒱₀ c none Set.univ xM (Memref.isWhole_whole _) arg1 harg1 oM (Memref.isWhole_whole _) iM (Memref.isWhole_whole _)
      xbM (Memref.isWhole_whole _) cc0_scoped1 obM (Memref.isWhole_whole _) cc0_scoped3 ibM (Memref.isWhole_whole _) cc0_scoped5 v94 c0 init where
  inv k acc := iprop(⌜acc = ws k⌝ ∗ resAt c X arg1 g k)
  step k acc := by
    iintro ⟨%e, H⟩
    subst e
    iapply (stepAll c X arg1 harg1 g k)
    iexact H

end Inv

end Cert.Proof.Route

end
-- ==== Proof.Body.lean ====
/-
  The kernel's one point: the first seven requests, the loop, the last two waits.
-/
module

public import proofs.«01_k».proof.Proof.Loop

@[expose] public section

noncomputable section

namespace Cert.Proof.Route

open Cert.KernelIdeal Cert.KernelIdeal.Gen Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Lists

omit [FloatOps F] in
/-- All blocks: the first seven and those at home before the first trip. -/
theorem blocks_start (Φ : Fin 32 → sProp 𝕄) :
    bigSep Finset.univ Φ = iprop(Φ 0 ∗ Φ 1 ∗ Φ 2 ∗ Φ 3 ∗ Φ 4 ∗ Φ 5 ∗ Φ 6 ∗ bigSep (Ring.homeSet 7 0) Φ) := by
  rw [show (Finset.univ : Finset (Fin 32)) = Ring.rangeSet 32 0 32 from by ext b; have := b.isLt; simp only [Finset.mem_univ, Ring.mem_rangeSet, true_iff]; omega,
    from_head Φ (show 0 < 32 by decide) (by decide), from_head Φ (show 0 + 1 < 32 by decide) (by decide), from_head Φ (show 0 + 1 + 1 < 32 by decide) (by decide),
    from_head Φ (show 0 + 1 + 1 + 1 < 32 by decide) (by decide), from_head Φ (show 0 + 1 + 1 + 1 + 1 < 32 by decide) (by decide),
    from_head Φ (show 0 + 1 + 1 + 1 + 1 + 1 < 32 by decide) (by decide), from_head Φ (show 0 + 1 + 1 + 1 + 1 + 1 + 1 < 32 by decide) (by decide),
    show Ring.rangeSet 32 (0 + 1 + 1 + 1 + 1 + 1 + 1 + 1) 32 = Ring.homeSet 7 0 from by ext b; have := b.isLt; simp only [Ring.mem_homeSet, Ring.mem_rangeSet]; omega]
  rfl
omit [FloatOps F] in
/-- The first seven blocks. -/
theorem blocks_seven (Φ : Fin 32 → sProp 𝕄) :
    bigSep (Ring.rangeSet 32 0 7) Φ = iprop(Φ 0 ∗ Φ 1 ∗ Φ 2 ∗ Φ 3 ∗ Φ 4 ∗ Φ 5 ∗ Φ 6 ∗ emp) := by
  rw [from_head Φ (show 0 < 7 by decide) (by decide), from_head Φ (show 0 + 1 < 7 by decide) (by decide), from_head Φ (show 0 + 1 + 1 < 7 by decide) (by decide),
    from_head Φ (show 0 + 1 + 1 + 1 < 7 by decide) (by decide), from_head Φ (show 0 + 1 + 1 + 1 + 1 < 7 by decide) (by decide),
    from_head Φ (show 0 + 1 + 1 + 1 + 1 + 1 < 7 by decide) (by decide), from_head Φ (show 0 + 1 + 1 + 1 + 1 + 1 + 1 < 7 by decide) (by decide),
    show Ring.rangeSet 32 (0 + 1 + 1 + 1 + 1 + 1 + 1 + 1) 7 = ∅ from by ext b; simp only [Ring.mem_rangeSet, Finset.notMem_empty, iff_false]; omega, bigSep_empty]
  rfl
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
omit [FloatOps F] in
/-- No block. -/
theorem blocks_none (Φ : Fin 32 → sProp 𝕄) {lo hi : ℕ} (h : hi ≤ lo ∨ 32 ≤ lo) : bigSep (Ring.rangeSet 32 lo hi) Φ = iprop(emp) := by
  rw [show Ring.rangeSet 32 lo hi = ∅ from by ext b; have := b.isLt; simp only [Ring.mem_rangeSet, Finset.notMem_empty, iff_false]; omega, bigSep_empty]; rfl
omit [FloatOps F] in
theorem blocks_all (Φ : Fin 32 → sProp 𝕄) : bigSep (Ring.rangeSet 32 0 32) Φ = bigSep Finset.univ Φ := by
  rw [show (Finset.univ : Finset (Fin 32)) = Ring.rangeSet 32 0 32 from by ext b; have := b.isLt; simp only [Finset.mem_univ, Ring.mem_rangeSet, true_iff]; omega]
omit [FloatOps F] in
/-- After the last trip the eight slots are those numbered 32 to 39. -/
theorem slots_end (Φ : Fin 8 → sProp 𝕄) : bigSep (Finset.Ico 32 40) (fun v => Φ (Ring.sl 8 v)) = bigSep Finset.univ Φ := by
  have e : (Finset.univ : Finset (Fin 8)) = insert (Ring.sl 8 39) (insert (Ring.sl 8 38) (insert (Ring.sl 8 37) (insert (Ring.sl 8 36) (insert (Ring.sl 8 35) (insert (Ring.sl 8 34)
      (insert (Ring.sl 8 33) {Ring.sl 8 32})))))) := by decide
  rw [e, bigSep_insert (by decide), bigSep_insert (by decide), bigSep_insert (by decide), bigSep_insert (by decide), bigSep_insert (by decide), bigSep_insert (by decide),
    bigSep_insert (by decide), bigSep_singleton]
  rw [ico_last _ (show 32 ≤ 39 by decide), ico_last _ (show 32 ≤ 38 by decide), ico_last _ (show 32 ≤ 37 by decide), ico_last _ (show 32 ≤ 36 by decide),
    ico_last _ (show 32 ≤ 35 by decide), ico_last _ (show 32 ≤ 34 by decide), ico_last _ (show 32 ≤ 33 by decide), ico_one]
  rfl

end Lists

section Body
variable (c : Dev nD) (X : Buf (Elt F) (xM.view.loc (c : Thread nD τ)))
  (arg1 : Memref sig .tc .vmem S2048x16 .f32) (harg1 : arg1.IsWhole) (g : Buf (Elt F) (arg1.view.loc (c : Thread nD τ)))

/-- What is held before the first trip is the invariant's at 0. -/
theorem res_start :
    iprop(wP c arg1 g ∗ (∃ W, owes (c : Thread nD τ) 0 W) ∗ bigSep (Ring.homeSet 7 0) (xhomeP c X)
      ∗ xflyP c X 0 0 ∗ xflyP c X 1 1 ∗ xflyP c X 2 2 ∗ xflyP c X 3 3 ∗ xflyP c X 4 4 ∗ xflyP c X 5 5 ∗ xflyP c X 6 6 ∗ xfreeP c 7
      ∗ ofreeP c 0 ∗ ofreeP c 1 ∗ ifreeP c 0 ∗ ifreeP c 1 ∗ bigSep Finset.univ (oaheadP (F := F) c) ∗ bigSep Finset.univ (iaheadP (F := F) c))
      ⊢ resAt c X arg1 g 0 := by
  unfold resAt
  rw [show 0 + 7 = 7 from rfl, show min 7 32 = 7 from rfl, show 0 + 8 = 7 + 1 from rfl, ico_one (spareP c), blocks_seven (comingP c X),
    orole_zero c X arg1 g rfl, irole_zero c X arg1 g rfl, blocks_none (obehindP c X arg1 g) (Or.inl (by decide)), blocks_none (ibehindP c X arg1 g) (Or.inl (by decide)),
    blocks_all (oaheadP c), blocks_all (iaheadP c)]
  iintro ⟨Hw, HW, Hh, H0, H1, H2, H3, H4, H5, H6, H7, Ho0, Ho1, Hi0, Hi1, Ho, Hi⟩
  isplitl [Hw]; · iexact Hw
  isplitl [HW]; · iexact HW
  isplitl [Hh]; · iexact Hh
  isplitl [H0 H1 H2 H3 H4 H5 H6]
  · isplitl [H0]; · iapply (entails_of_eq (show xflyP c X 0 0 = comingP c X 0 from rfl)); iexact H0
    isplitl [H1]; · iapply (entails_of_eq (show xflyP c X 1 1 = comingP c X 1 from rfl)); iexact H1
    isplitl [H2]; · iapply (entails_of_eq (show xflyP c X 2 2 = comingP c X 2 from rfl)); iexact H2
    isplitl [H3]; · iapply (entails_of_eq (show xflyP c X 3 3 = comingP c X 3 from rfl)); iexact H3
    isplitl [H4]; · iapply (entails_of_eq (show xflyP c X 4 4 = comingP c X 4 from rfl)); iexact H4
    isplitl [H5]; · iapply (entails_of_eq (show xflyP c X 5 5 = comingP c X 5 from rfl)); iexact H5
    isplitl [H6]; · iapply (entails_of_eq (show xflyP c X 6 6 = comingP c X 6 from rfl)); iexact H6
    iempintro
  isplitl [H7]; · iapply (entails_of_eq (show xfreeP (F := F) c 7 = spareP c 7 from rfl)); iexact H7
  isplitl [Ho0]; · iexact Ho0
  isplitl [Ho1]; · iexact Ho1
  isplitr; · iempintro
  isplitl [Ho]; · iexact Ho
  isplitl [Hi0]; · iexact Hi0
  isplitl [Hi1]; · iexact Hi1
  isplitr; · iempintro
  iexact Hi

/-- What is held after the last trip: everything home and written but the last output blocks, on their way. -/
theorem res_end :
    resAt c X arg1 g 32 ⊢ iprop(wP c arg1 g ∗ (∃ W, owes (c : Thread nD τ) 0 W) ∗ bigSep Finset.univ (xhomeP c X) ∗ bigSep Finset.univ (xfreeP (F := F) c)
      ∗ ofreeP c 0 ∗ ifreeP c 0
      ∗ oflyP c 1 31 (oval c X arg1 g 31) ∗ iflyP c 1 31 (ival c X arg1 g 31)
      ∗ bigSep (Ring.rangeSet 32 0 31) (obehindP c X arg1 g) ∗ bigSep (Ring.rangeSet 32 0 31) (ibehindP c X arg1 g)) := by
  unfold resAt
  rw [orole_pos c X arg1 g (by decide), irole_pos c X arg1 g (by decide), show Ring.sl 2 (32 + 1) = 1 from rfl, show (Ring.bk 32 (32 - 1)) = 31 from rfl, show Ring.sl 2 32 = 0 from rfl, show min (32 + 7) 32 = 32 from rfl, show 32 + 8 = 40 from rfl,
    show bigSep (Finset.Ico 32 40) (spareP (F := F) c) = bigSep Finset.univ (xfreeP (F := F) c) from slots_end (xfreeP c),
    show (Ring.homeSet 7 32 : Finset (Fin 32)) = Finset.univ from by ext b; have := b.isLt; simp only [Ring.mem_homeSet, Finset.mem_univ, iff_true]; omega]
  iintro ⟨Hw, HW, Hh, -, Hs, Ho, Hof, Hob, -, Hi, Hif, Hib, -⟩
  isplitl [Hw]; · iexact Hw
  isplitl [HW]; · iexact HW
  isplitl [Hh]; · iexact Hh
  isplitl [Hs]; · iexact Hs
  isplitl [Ho]; · iexact Ho
  isplitl [Hi]; · iexact Hi
  isplitl [Hof]; · iexact Hof
  isplitl [Hif]; · iexact Hif
  isplitl [Hob]; · iexact Hob
  iexact Hib

/-- The kernel at its one point. -/
abbrev bodyG : Prog (TpuEff nD τ sig (Elt F) Λ₀ .tc) PUnit :=
  cc0__outer_body (F := F) xM (Memref.isWhole_whole _) arg1 harg1 oM (Memref.isWhole_whole _) iM (Memref.isWhole_whole _)
    xbM (Memref.isWhole_whole _) cc0_scoped1 obM (Memref.isWhole_whole _) cc0_scoped3 ibM (Memref.isWhole_whole _) cc0_scoped5

/-- What the kernel takes: the weights, the rows, every slot free, both results at anything. -/
def PRE : sProp 𝕄 :=
  iprop(wP c arg1 g ∗ (∃ W, owes (c : Thread nD τ) 0 W) ∗ bigSep Finset.univ (xhomeP c X) ∗ bigSep Finset.univ (xfreeP (F := F) c)
    ∗ ofreeP c 0 ∗ ofreeP c 1 ∗ ifreeP c 0 ∗ ifreeP c 1 ∗ bigSep Finset.univ (oaheadP (F := F) c) ∗ bigSep Finset.univ (iaheadP (F := F) c))
/-- What it leaves: the same with every block of both results written. -/
def POST : sProp 𝕄 :=
  iprop(wP c arg1 g ∗ (∃ W, owes (c : Thread nD τ) 0 W) ∗ bigSep Finset.univ (xhomeP c X) ∗ bigSep Finset.univ (xfreeP (F := F) c)
    ∗ ofreeP c 0 ∗ ofreeP c 1 ∗ ifreeP c 0 ∗ ifreeP c 1 ∗ bigSep Finset.univ (obehindP c X arg1 g) ∗ bigSep Finset.univ (ibehindP c X arg1 g))

theorem ws_zero : ((7#32, 0#32, 0#32, 0#32, 0#32, 0#32, 0#32) : WT) = ws 0 := rfl

set_option backward.proofsInPublic true in
/-- THE POINT: seven requests, the loop by its invariant, the last two waits. -/
theorem bodyRun (Q : PUnit → sProp 𝕄) :
    iprop(PRE c X arg1 g ∗ (POST c X arg1 g -∗ Q ⟨⟩))
      ⊢ wp frame (wpE (defs₀ (F := F)) 𝒱₀ (c : Thread nD τ) none) Set.univ (bodyG arg1 harg1) Q := by
  obtain ⟨p1, p2, p3, p4, p5, p6⟩ := condP
  unfold PRE
  rw [blocks_start (xhomeP c X), bigSep_fin8 (xfreeP (F := F) c)]
  iintro ⟨⟨Hw, ⟨%W, HW⟩, ⟨H0, H1, H2, H3, H4, H5, H6, Hh⟩, ⟨⟨C0, ⟨%f0, S0⟩⟩, ⟨C1, ⟨%f1, S1⟩⟩, ⟨C2, ⟨%f2, S2⟩⟩, ⟨C3, ⟨%f3, S3⟩⟩, ⟨C4, ⟨%f4, S4⟩⟩, ⟨C5, ⟨%f5, S5⟩⟩, ⟨C6, ⟨%f6, S6⟩⟩, H7⟩,
    Ho0, Ho1, Hi0, Hi1, Ho, Hi⟩, HK⟩
  dsimp only [bodyG]
  sl_exec
  ihave HR := (res_start c X arg1 g) $$ [Hw HW Hh C0 C1 C2 C3 C4 C5 C6 H7 Ho0 Ho1 Hi0 Hi1 Ho Hi]
  · isplitl [Hw]; · iexact Hw
    isplitl [HW]; · iexists _; iexact HW
    isplitl [Hh]; · iexact Hh
    isplitl [C0]; · iexists f0; iexact C0
    isplitl [C1]; · iexists f1; iexact C1
    isplitl [C2]; · iexists f2; iexact C2
    isplitl [C3]; · iexists f3; iexact C3
    isplitl [C4]; · iexists f4; iexact C4
    isplitl [C5]; · iexists f5; iexact C5
    isplitl [C6]; · iexists f6; iexact C6
    isplitl [H7]; · iexact H7
    isplitl [Ho0]; · iexact Ho0
    isplitl [Ho1]; · iexact Ho1
    isplitl [Hi0]; · iexact Hi0
    isplitl [Hi1]; · iexact Hi1
    isplitl [Ho]; · iexact Ho
    iexact Hi
  have hz := ws_zero
  sl_exec
  ihave HE := (entails_of_eq (congrArg (resAt c X arg1 g) trips_eq)) $$ HR
  ihave HE2 := (res_end c X arg1 g) $$ HE
  icases HE2 with ⟨Hw, ⟨%W', HW⟩, Hh, Hs, Ho0, Hi0, ⟨%go, %fo, %ho, HO⟩, ⟨%gi, %fi, %hi, HI⟩, Ho, Hi⟩
  sl_exec
  sl_step
  iapply HK
  unfold POST
  isplitl [Hw]; · iexact Hw
  isplitl [HW]; · iexists _; iexact HW
  isplitl [Hh]; · iexact Hh
  isplitl [Hs]; · iexact Hs
  isplitl [Ho0]; · iexact Ho0
  isplitl [HO HO_src]
  · isplitl [HO]; · iexact HO
    iexists _; iexact HO_src
  isplitl [Hi0]; · iexact Hi0
  isplitl [HI HI_src]
  · isplitl [HI]; · iexact HI
    iexists _; iexact HI_src
  irw [← blocks_all (obehindP c X arg1 g), ← blocks_all (ibehindP c X arg1 g), upto_last (obehindP c X arg1 g) (show 0 ≤ 31 by decide) (by decide),
    upto_last (ibehindP c X arg1 g) (show 0 ≤ 31 by decide) (by decide), show Ring.bk 32 31 = 31 from rfl, obehind_at, ibehind_at]
  isplitl [Ho HO_dst]
  · isplitl [HO_dst]
    · iexists _; isplitr; · ipureintro; exact ho
      iexact HO_dst
    iexact Ho
  isplitl [HI_dst]
  · iexists _; isplitr; · ipureintro; exact hi
    iexact HI_dst
  iexact Hi

end Body

end Cert.Proof.Route

end
-- ==== Proof.Run.lean ====
/-
  The launch: the kernel's whole run, from any memory, over any float values.
-/
module

public import proofs.«01_k».proof.Proof.Body

@[expose] public section

noncomputable section

namespace Cert.Proof.Route

open Cert.KernelIdeal Cert.KernelIdeal.Gen Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The parts cover the buffers -/

section Sets

abbrev XB (b : Fin 32) : Finset S16384x2048.Idx := (Rect.unit (s := S16384x2048) (blkOff b) S512x2048.size (xblk_inb b)).set
abbrev OB (b : Fin 32) : Finset S16384x2.Idx := (Rect.unit (s := S16384x2) (blkOff b) S512x2.size (oblk_inb b)).set
abbrev XS (s : Fin 8) : Finset S8x512x2048.Idx := (Rect.unit (s := S8x512x2048) (slotOff s) S1x512x2048.size (xslot_inb s)).set
abbrev OS (s : Fin 2) : Finset S2x512x2.Idx := (Rect.unit (s := S2x512x2) (outOff s) S1x512x2.size (oslot_inb s)).set

theorem xblk_set (b : Fin 32) : (xblk b).view.set = XB b := View.set_slice_whole _ _
theorem oblk_set (b : Fin 32) : (oblk b).view.set = OB b := View.set_slice_whole _ _
theorem iblk_set (b : Fin 32) : (iblkM b).view.set = OB b := View.set_slice_whole _ _
theorem xslot_set (s : Fin 8) : (xslot s).view.set = XS s := (View.set_reshape _ _).trans (View.set_slice_whole _ _)
theorem oslot_set (s : Fin 2) : (oslot s).view.set = OS s := (View.set_reshape _ _).trans (View.set_slice_whole _ _)
theorem islot_set (s : Fin 2) : (islot s).view.set = OS s := (View.set_reshape _ _).trans (View.set_slice_whole _ _)

theorem XB_disjoint : ∀ b b', b ≠ b' → Disjoint (XB b) (XB b') :=
  Ring.lead_disjoint (s := S16384x2048) 0 512 blkOff S512x2048.size xblk_inb (fun _ => rfl) rfl
theorem XB_cover : Finset.univ.biUnion XB = Finset.univ :=
  Ring.lead_cover (s := S16384x2048) 0 512 blkOff S512x2048.size xblk_inb (fun _ => rfl) (fun b a h => by fin_cases a; exacts [absurd rfl h, rfl]) rfl
    (fun a h => by fin_cases a; exacts [absurd rfl h, rfl]) rfl
theorem OB_disjoint : ∀ b b', b ≠ b' → Disjoint (OB b) (OB b') :=
  Ring.lead_disjoint (s := S16384x2) 0 512 blkOff S512x2.size oblk_inb (fun _ => rfl) rfl
theorem OB_cover : Finset.univ.biUnion OB = Finset.univ :=
  Ring.lead_cover (s := S16384x2) 0 512 blkOff S512x2.size oblk_inb (fun _ => rfl) (fun b a h => by fin_cases a; exacts [absurd rfl h, rfl]) rfl
    (fun a h => by fin_cases a; exacts [absurd rfl h, rfl]) rfl
theorem XS_disjoint : ∀ b b', b ≠ b' → Disjoint (XS b) (XS b') :=
  Ring.lead_disjoint (s := S8x512x2048) 0 1 slotOff S1x512x2048.size xslot_inb (fun s => (Nat.one_mul _).symm) rfl
theorem XS_cover : Finset.univ.biUnion XS = Finset.univ :=
  Ring.lead_cover (s := S8x512x2048) 0 1 slotOff S1x512x2048.size xslot_inb (fun s => (Nat.one_mul _).symm) (fun b a h => by fin_cases a; exacts [absurd rfl h, rfl, rfl]) rfl
    (fun a h => by fin_cases a; exacts [absurd rfl h, rfl, rfl]) rfl
theorem OS_disjoint : ∀ b b', b ≠ b' → Disjoint (OS b) (OS b') :=
  Ring.lead_disjoint (s := S2x512x2) 0 1 outOff S1x512x2.size oslot_inb (fun s => (Nat.one_mul _).symm) rfl
theorem OS_cover : Finset.univ.biUnion OS = Finset.univ :=
  Ring.lead_cover (s := S2x512x2) 0 1 outOff S1x512x2.size oslot_inb (fun s => (Nat.one_mul _).symm) (fun b a h => by fin_cases a; exacts [absurd rfl h, rfl, rfl]) rfl
    (fun a h => by fin_cases a; exacts [absurd rfl h, rfl, rfl]) rfl

end Sets

/-! ## Buffers whole and in parts -/

section Parts
variable (c : Dev nD)

abbrev lx : Loc nD τ sig := (c : Thread nD τ).loc main_arg0
abbrev lo : Loc nD τ sig := (c : Thread nD τ).loc main_v0_0
abbrev li : Loc nD τ sig := (c : Thread nD τ).loc main_v0_1
abbrev lxb : Loc nD τ sig := (c : Thread nD τ).loc cc0_scoped0
abbrev lob : Loc nD τ sig := (c : Thread nD τ).loc cc0_scoped2
abbrev lib : Loc nD τ sig := (c : Thread nD τ).loc cc0_scoped4

omit [FloatOps F] in
theorem xslotP_eq (s f) : (xslotP c s f : sProp 𝕄) = (lxb c ↦[XS s]{fullShare} f) := congrArg (fun S => (_ ↦[S]{fullShare} f : sProp 𝕄)) (xslot_set s)
omit [FloatOps F] in
theorem oslotP_eq (s f) : (oslotP c s f : sProp 𝕄) = (lob c ↦[OS s]{fullShare} f) := congrArg (fun S => (_ ↦[S]{fullShare} f : sProp 𝕄)) (oslot_set s)
omit [FloatOps F] in
theorem islotP_eq (s f) : (islotP c s f : sProp 𝕄) = (lib c ↦[OS s]{fullShare} f) := congrArg (fun S => (_ ↦[S]{fullShare} f : sProp 𝕄)) (islot_set s)
omit [FloatOps F] in
theorem xhomeP_eq (b f) : (xhomeP c f b : sProp 𝕄) = (lx c ↦[XB b]{fullShare} f) := congrArg (fun S => (_ ↦[S]{fullShare} f : sProp 𝕄)) (xblk_set b)
omit [FloatOps F] in
theorem oblkP_eq (b f) : (oblkP c b f : sProp 𝕄) = (lo c ↦[OB b]{fullShare} f) := congrArg (fun S => (_ ↦[S]{fullShare} f : sProp 𝕄)) (oblk_set b)
omit [FloatOps F] in
theorem iblkP_eq (b f) : (iblkP c b f : sProp 𝕄) = (li c ↦[OB b]{fullShare} f) := congrArg (fun S => (_ ↦[S]{fullShare} f : sProp 𝕄)) (iblk_set b)

omit [FloatOps F] in
/-- The rows whole are their blocks home. -/
theorem x_eq (X : Buf (Elt F) (lx c)) : (lx c ↦{fullShare} X : sProp 𝕄) = bigSep Finset.univ (xhomeP c X) := by
  rw [Ring.pointsTo_blocks (ℓ := lx c) XB XB_disjoint XB_cover]
  exact bigSep_congr fun b _ => (xhomeP_eq c b X).symm
omit [FloatOps F] in
/-- A result whole at any contents is its blocks not written yet. -/
theorem o_split (f : Buf (Elt F) (lo c)) : (lo c ↦{fullShare} f : sProp 𝕄) ⊢ bigSep Finset.univ (oaheadP (F := F) c) := by
  rw [Ring.pointsTo_blocks (ℓ := lo c) OB OB_disjoint OB_cover]
  refine bigSep_mono fun b _ => ?_
  have h : (oblkP c b f : sProp 𝕄) ⊢ iprop(∃ f, oblkP c b f) := by iintro H; iexists f; iexact H
  rw [oblkP_eq c b f] at h; exact h
omit [FloatOps F] in
theorem i_split (f : Buf (Elt F) (li c)) : (li c ↦{fullShare} f : sProp 𝕄) ⊢ bigSep Finset.univ (iaheadP (F := F) c) := by
  rw [Ring.pointsTo_blocks (ℓ := li c) OB OB_disjoint OB_cover]
  refine bigSep_mono fun b _ => ?_
  have h : (iblkP c b f : sProp 𝕄) ⊢ iprop(∃ f, iblkP c b f) := by iintro H; iexists f; iexact H
  rw [iblkP_eq c b f] at h; exact h

/-- Blocks of the scores reading `v b` each are the scores whole, reading `v b` at each block. -/
theorem o_join (v : Fin 32 → S512x2.Idx → Elt F .f32) (f0 : Buf (Elt F) (lo c)) :
    bigSep Finset.univ (fun b => odoneP c b (v b)) ⊢ (iprop(∃ f : Buf (Elt F) (lo c), ⌜∀ b, (oblk b).view.read (Elt F) f = v b⌝ ∗ lo c ↦{fullShare} f) : sProp 𝕄) := by
  refine (bigSep_mono (Ψ := fun b => (lo c ↦[OB b]{fullShare} ((oblk b).view.rep (v b)) : sProp 𝕄)) fun b _ => ?_).trans ?_
  · have h : (odoneP c b (v b) : sProp 𝕄) ⊢ oblkP c b ((oblk b).view.rep (v b)) := by
      iintro ⟨%f, %e, H⟩
      ihave H' := (pointsTo_rep_entails (c : Thread nD τ) (oblk b) f fullShare) $$ H
      rw [e]; iexact H'
    rw [oblkP_eq c b] at h; exact h
  refine (pointsTo_biUnion_join (ℓ := lo c) Finset.univ OB (fun b => (oblk b).view.rep (v b)) f0 (fun b _ b' _ h => OB_disjoint b b' h)).trans ?_
  rw [OB_cover]
  iintro ⟨%f, %e, H⟩; iexists f
  isplitr
  · ipureintro
    intro b
    exact (View.read_congr fun i hi => e b (Finset.mem_univ _) i ((oblk_set b) ▸ hi)).trans (View.read_rep _ _)
  iexact H

/-- Blocks of the indices reading `v b` each are the indices whole, reading `v b` at each block. -/
theorem i_join (v : Fin 32 → S512x2.Idx → Elt F .i32) (f0 : Buf (Elt F) (li c)) :
    bigSep Finset.univ (fun b => idoneP c b (v b)) ⊢ (iprop(∃ f : Buf (Elt F) (li c), ⌜∀ b, (iblkM b).view.read (Elt F) f = v b⌝ ∗ li c ↦{fullShare} f) : sProp 𝕄) := by
  refine (bigSep_mono (Ψ := fun b => (li c ↦[OB b]{fullShare} ((iblkM b).view.rep (v b)) : sProp 𝕄)) fun b _ => ?_).trans ?_
  · have h : (idoneP c b (v b) : sProp 𝕄) ⊢ iblkP c b ((iblkM b).view.rep (v b)) := by
      iintro ⟨%f, %e, H⟩
      ihave H' := (pointsTo_rep_entails (c : Thread nD τ) (iblkM b) f fullShare) $$ H
      rw [e]; iexact H'
    rw [iblkP_eq c b] at h; exact h
  refine (pointsTo_biUnion_join (ℓ := li c) Finset.univ OB (fun b => (iblkM b).view.rep (v b)) f0 (fun b _ b' _ h => OB_disjoint b b' h)).trans ?_
  rw [OB_cover]
  iintro ⟨%f, %e, H⟩; iexists f
  isplitr
  · ipureintro
    intro b
    exact (View.read_congr fun i hi => e b (Finset.mem_univ _) i ((iblk_set b) ▸ hi)).trans (View.read_rep _ _)
  iexact H

/-- The input ring whole is its slots, and back; -/
theorem xb_split : iprop(∃ f : Buf (Elt F) (lxb c), lxb c ↦{fullShare} f) ⊢ (bigSep Finset.univ (fun s => iprop(∃ f, xslotP c s f)) : sProp 𝕄) := by
  iintro ⟨%f, H⟩
  have h : (lxb c ↦{fullShare} f : sProp 𝕄) ⊢ bigSep Finset.univ (fun s => iprop(∃ f, xslotP c s f)) := by
    rw [Ring.pointsTo_blocks (ℓ := lxb c) XS XS_disjoint XS_cover]
    refine bigSep_mono fun s _ => ?_
    have h : (xslotP c s f : sProp 𝕄) ⊢ iprop(∃ f, xslotP c s f) := by iintro H; iexists f; iexact H
    rw [xslotP_eq c s f] at h; exact h
  iapply h; iexact H
theorem xb_join : (bigSep Finset.univ (fun s => iprop(∃ f, xslotP c s f)) : sProp 𝕄) ⊢ iprop(∃ f : Buf (Elt F) (lxb c), lxb c ↦{fullShare} f) := by
  refine (bigSep_mono (Ψ := fun s => iprop(∃ f : Buf (Elt F) (lxb c), lxb c ↦[XS s]{fullShare} f)) fun s _ => ?_).trans
    (Ring.pointsTo_blocks_join_exists (ℓ := lxb c) XS XS_disjoint XS_cover default)
  have h : (iprop(∃ f, xslotP c s f) : sProp 𝕄) ⊢ iprop(∃ f : Buf (Elt F) (lxb c), lxb c ↦[XS s]{fullShare} f) := by
    iintro ⟨%f, H⟩; iexists f; iapply (entails_of_eq (xslotP_eq c s f)); iexact H
  exact h
/-- so the scores' ring; -/
theorem ob_split : iprop(∃ f : Buf (Elt F) (lob c), lob c ↦{fullShare} f) ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare) (ℓ := lob c) OS OS_disjoint OS_cover f).trans (bigSep_univ_two _))) $$ H
  icases H2 with ⟨H0, H1⟩
  isplitl [H0]
  · iexists f; iapply (entails_of_eq (oslotP_eq c 0 f).symm); iexact H0
  · iexists f; iapply (entails_of_eq (oslotP_eq c 1 f).symm); iexact H1
theorem ob_join : iprop((∃ f, oslotP c 0 f) ∗ ∃ f, oslotP c 1 f) ⊢ (iprop(∃ f : Buf (Elt F) (lob c), lob c ↦{fullShare} f) : sProp 𝕄) := by
  iintro ⟨⟨%f0, H0⟩, ⟨%f1, H1⟩⟩
  iapply (Ring.pointsTo_blocks_join_exists (ℓ := lob c) OS OS_disjoint OS_cover f0)
  irw [bigSep_univ_two]
  isplitl [H0]
  · iexists f0; iapply (entails_of_eq (oslotP_eq c 0 f0)); iexact H0
  · iexists f1; iapply (entails_of_eq (oslotP_eq c 1 f1)); iexact H1
/-- and the indices' ring. -/
theorem ib_split : iprop(∃ f : Buf (Elt F) (lib c), lib c ↦{fullShare} f) ⊢ (iprop((∃ f, islotP c 0 f) ∗ ∃ f, islotP c 1 f) : sProp 𝕄) := by
  iintro ⟨%f, H⟩
  ihave H2 := (entails_of_eq ((Ring.pointsTo_blocks (Ix := Unit) (Name := ℕ) (U := UU nD τ) (Lvl := ℕ) (q := fullShare) (ℓ := lib c) OS OS_disjoint OS_cover f).trans (bigSep_univ_two _))) $$ H
  icases H2 with ⟨H0, H1⟩
  isplitl [H0]
  · iexists f; iapply (entails_of_eq (islotP_eq c 0 f).symm); iexact H0
  · iexists f; iapply (entails_of_eq (islotP_eq c 1 f).symm); iexact H1
theorem ib_join : iprop((∃ f, islotP c 0 f) ∗ ∃ f, islotP c 1 f) ⊢ (iprop(∃ f : Buf (Elt F) (lib c), lib c ↦{fullShare} f) : sProp 𝕄) := by
  iintro ⟨⟨%f0, H0⟩, ⟨%f1, H1⟩⟩
  iapply (Ring.pointsTo_blocks_join_exists (ℓ := lib c) OS OS_disjoint OS_cover f0)
  irw [bigSep_univ_two]
  isplitl [H0]
  · iexists f0; iapply (entails_of_eq (islotP_eq c 0 f0)); iexact H0
  · iexists f1; iapply (entails_of_eq (islotP_eq c 1 f1)); iexact H1

/-! ## The kernel's own semaphores -/

/-- Eight cells of the input ring, two of the scores' and two of the indices'. -/
abbrev osem : Fin 12 → SemLoc sig :=
  ![.dma (xsem 0).sem, .dma (xsem 1).sem, .dma (xsem 2).sem, .dma (xsem 3).sem, .dma (xsem 4).sem, .dma (xsem 5).sem, .dma (xsem 6).sem, .dma (xsem 7).sem,
    .dma (osm 0).sem, .dma (osm 1).sem, .dma (ism 0).sem, .dma (ism 1).sem]
theorem ownSemFacts : Pipeline.OwnSemFacts spec0 osem := by decide

omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ
omit [FloatOps F] in
theorem ownSems0_eq : (Pipeline.ownSems0 (Ix := Unit) (Name := ℕ) (U := UU nD τ) (Lvl := ℕ) (Val := Elt F) (τ := τ) osem c : sProp 𝕄)
    = iprop(xcellP c 0 ∗ xcellP c 1 ∗ xcellP c 2 ∗ xcellP c 3 ∗ xcellP c 4 ∗ xcellP c 5 ∗ xcellP c 6 ∗ xcellP c 7 ∗ ocellP c 0 ∗ ocellP c 1 ∗ icellP c 0 ∗ icellP c 1) := by
  unfold Pipeline.ownSems0; rw [bigSep_fin12]; rfl

/-- Every slot free is the rings whole with their cells at zero; -/
theorem free_in :
    iprop(Pipeline.ownSems0 (τ := τ) osem c ∗ (∃ f : Buf (Elt F) (lxb c), lxb c ↦{fullShare} f) ∗ (∃ f : Buf (Elt F) (lob c), lob c ↦{fullShare} f) ∗ (∃ f : Buf (Elt F) (lib c), lib c ↦{fullShare} f))
      ⊢ (iprop(bigSep Finset.univ (xfreeP (F := F) c) ∗ ofreeP c 0 ∗ ofreeP c 1 ∗ ifreeP c 0 ∗ ifreeP c 1) : sProp 𝕄) := by
  rw [ownSems0_eq, show (xfreeP (F := F) c : Fin 8 → sProp 𝕄) = fun s => iprop(xcellP c s ∗ ∃ f, xslotP c s f) from rfl, bigSep_sep' Finset.univ (xcellP c) (fun s => iprop(∃ f, xslotP c s f)), bigSep_fin8 (xcellP (F := F) c)]
  iintro ⟨⟨x0, x1, x2, x3, x4, x5, x6, x7, o0, o1, i0, i1⟩, Hx, Ho, Hi⟩
  ihave Hx' := (xb_split c) $$ Hx
  ihave Ho' := (ob_split c) $$ Ho
  ihave Hi' := (ib_split c) $$ Hi
  icases Ho' with ⟨p0, p1⟩
  icases Hi' with ⟨q0, q1⟩
  isplitl [x0 x1 x2 x3 x4 x5 x6 x7 Hx']
  · isplitl [x0 x1 x2 x3 x4 x5 x6 x7]
    · isplitl [x0]; · iexact x0
      isplitl [x1]; · iexact x1
      isplitl [x2]; · iexact x2
      isplitl [x3]; · iexact x3
      isplitl [x4]; · iexact x4
      isplitl [x5]; · iexact x5
      isplitl [x6]; · iexact x6
      iexact x7
    iexact Hx'
  isplitl [o0 p0]
  · isplitl [o0]; · iexact o0
    iexact p0
  isplitl [o1 p1]
  · isplitl [o1]; · iexact o1
    iexact p1
  isplitl [i0 q0]
  · isplitl [i0]; · iexact i0
    iexact q0
  isplitl [i1]; · iexact i1
  iexact q1
/-- and back. -/
theorem free_out :
    (iprop(bigSep Finset.univ (xfreeP (F := F) c) ∗ ofreeP c 0 ∗ ofreeP c 1 ∗ ifreeP c 0 ∗ ifreeP c 1) : sProp 𝕄)
      ⊢ iprop(Pipeline.ownSems0 (τ := τ) osem c ∗ (∃ f : Buf (Elt F) (lxb c), lxb c ↦{fullShare} f) ∗ (∃ f : Buf (Elt F) (lob c), lob c ↦{fullShare} f) ∗ (∃ f : Buf (Elt F) (lib c), lib c ↦{fullShare} f)) := by
  rw [ownSems0_eq, show (xfreeP (F := F) c : Fin 8 → sProp 𝕄) = fun s => iprop(xcellP c s ∗ ∃ f, xslotP c s f) from rfl, bigSep_sep' Finset.univ (xcellP c) (fun s => iprop(∃ f, xslotP c s f)), bigSep_fin8 (xcellP (F := F) c)]
  iintro ⟨⟨⟨x0, x1, x2, x3, x4, x5, x6, x7⟩, Hx⟩, ⟨o0, p0⟩, ⟨o1, p1⟩, ⟨i0, q0⟩, ⟨i1, q1⟩⟩
  isplitl [x0 x1 x2 x3 x4 x5 x6 x7 o0 o1 i0 i1]
  · isplitl [x0]; · iexact x0
    isplitl [x1]; · iexact x1
    isplitl [x2]; · iexact x2
    isplitl [x3]; · iexact x3
    isplitl [x4]; · iexact x4
    isplitl [x5]; · iexact x5
    isplitl [x6]; · iexact x6
    isplitl [x7]; · iexact x7
    isplitl [o0]; · iexact o0
    isplitl [o1]; · iexact o1
    isplitl [i0]; · iexact i0
    iexact i1
  isplitl [Hx]; · iapply (xb_join c); iexact Hx
  isplitl [p0 p1]
  · iapply (ob_join c)
    isplitl [p0]; · iexact p0
    iexact p1
  iapply (ib_join c)
  isplitl [q0]; · iexact q0
  iexact q1

end Parts

/-! ## The pipeline's proof data -/

section Launch
variable (m : (ℓ : Loc nD τ sig) → Buf (Elt F) ℓ) (ρ : Dev nD → PrngReg)

/-- A buffer's contents at launch. -/
abbrev V0 (c : Dev nD) (b : Ref sig .tc) : Buf (Elt F) ((c : Thread nD τ).loc b) := (s₀ m ρ).mem ((c : Thread nD τ).loc b)
/-- The rows at launch. -/
abbrev XA (c : Dev nD) : Buf (Elt F) (lx c) := m (lx c)

abbrev st0 (t : Fin cfg0.N) : Memref sig .tc .vmem S2048x16 .f32 := win0_0.stage (cfg0.slots t 0)
abbrev hst0 (t : Fin cfg0.N) : (st0 t).IsWhole := hstage0_0 0

/-- The staged weights: the whole array as launched. -/
def wblk (c : Dev nD) (w : Fin cfg0.W) (t : Fin cfg0.N) : ((cfg0.win w).xblock (cfg0.grid.coords t)).Idx → Elt F (cfg0.win w).elt :=
  ((cfg0.win w).blk t).view.read (Elt F) (V0 m ρ c (Pipeline.arrRef spec0 w))
/-- What the staging buffer holds at the point. -/
abbrev wst (c : Dev nD) (t : Fin cfg0.N) : Buf (Elt F) ((st0 t).view.loc (c : Thread nD τ)) := (st0 t).view.rep (wblk m ρ c 0 t)

/-- Every slot free. -/
def FREE (c : Dev nD) : sProp 𝕄 := iprop(bigSep Finset.univ (xfreeP (F := F) c) ∗ ofreeP c 0 ∗ ofreeP c 1 ∗ ifreeP c 0 ∗ ifreeP c 1)
/-- Held before the point: the rows, every slot free, both results at anything; -/
def ΦA (c : Dev nD) : sProp 𝕄 :=
  iprop(bigSep Finset.univ (xhomeP c (XA m c)) ∗ FREE (F := F) c ∗ bigSep Finset.univ (oaheadP (F := F) c) ∗ bigSep Finset.univ (iaheadP (F := F) c))
/-- after it: both results written. -/
def ΦB (c : Dev nD) : sProp 𝕄 :=
  iprop(bigSep Finset.univ (xhomeP c (XA m c)) ∗ FREE (F := F) c
    ∗ bigSep Finset.univ (obehindP c (XA m c) (st0 t0_0) (wst m ρ c t0_0)) ∗ bigSep Finset.univ (ibehindP c (XA m c) (st0 t0_0) (wst m ρ c t0_0)))

def dats (_ : Fin 1) (c : Dev nD) : Dat τ (Elt F) Unit ℕ (UU nD τ) ℕ cfg0 c where
  A w := V0 m ρ c (Pipeline.arrRef spec0 w)
  after w t := match w with
    | ⟨0, _⟩ => wblk m ρ c 0 t
  Φ i := if i.val = 0 then ΦA m c else ΦB m ρ c
  q _ := fullShare
  owed _ := 0

theorem before_w0 (c : Dev nD) (t : Fin cfg0.N) (d) : (dats m ρ 0 c).before 0 t d = wblk m ρ c 0 t := by
  unfold Dat.before; rw [if_pos (fetch0_0 t)]; unfold Dat.fetched Dat.blockOf wblk; dsimp only [dats]; rfl
theorem after_w0 (c : Dev nD) (t : Fin cfg0.N) : (dats m ρ 0 c).after 0 t = wblk m ρ c 0 t := by dsimp only [dats]

/-! ## The body obligation -/

/-- The body table's entry is the kernel on the point's staging buffer. -/
theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
/-- The body at its point, from what is held before it to what is held after. -/
theorem body_obligation (c : Dev nD) : BodyObligation (dats (F := F) m ρ 0 c) (defs₀ (F := F)) 𝒱₀ () Set.univ := fun t => by
  obtain rfl := fin_N0 t
  rw [bigSep_W0, bigSep_W0]
  dsimp only
  simp only [before_w0, after_w0]
  rw [show (dats m ρ 0 c).Φ t0_0.castSucc = ΦA m c from rfl, show (dats m ρ 0 c).Φ t0_0.succ = ΦB m ρ c from rfl]
  unfold Dat.owesAt Pipeline.owesWithin
  rw [show (dats m ρ 0 c).owed t0_0.castSucc = 0 from rfl, show (dats m ρ 0 c).owed t0_0.succ = 0 from rfl]
  unfold owns ΦA ΦB FREE
  iintro ⟨⟨Hx, ⟨Hs, Ho0, Ho1, Hi0, Hi1⟩, Ho, Hi⟩, ⟨%W, -, HW⟩, ⟨%d0, %g0, %hg0, Hw⟩⟩
  ihave Hw' := (pointsTo_rep_entails (c : Thread nD τ) (st0 t0_0) g0 fullShare) $$ Hw
  rw [hg0]
  sl_rw [prog_eq t0_0]
  iapply (bodyRun c (XA m c) (st0 t0_0) (hst0 t0_0) (wst m ρ c t0_0))
  unfold PRE POST
  isplitl [Hw' HW Hx Hs Ho0 Ho1 Hi0 Hi1 Ho Hi]
  · isplitl [Hw']; · iexact Hw'
    isplitl [HW]; · iexists W; iexact HW
    isplitl [Hx]; · iexact Hx
    isplitl [Hs]; · iexact Hs
    isplitl [Ho0]; · iexact Ho0
    isplitl [Ho1]; · iexact Ho1
    isplitl [Hi0]; · iexact Hi0
    isplitl [Hi1]; · iexact Hi1
    isplitl [Ho]; · iexact Ho
    iexact Hi
  · iintro ⟨Hw, ⟨%W', HW⟩, Hx, Hs, Ho0, Ho1, Hi0, Hi1, Ho, Hi⟩
    isplitl [Hx Hs Ho0 Ho1 Hi0 Hi1 Ho Hi]
    · isplitl [Hx]; · iexact Hx
      isplitl [Hs Ho0 Ho1 Hi0 Hi1]
      · isplitl [Hs]; · iexact Hs
        isplitl [Ho0]; · iexact Ho0
        isplitl [Ho1]; · iexact Ho1
        isplitl [Hi0]; · iexact Hi0
        iexact Hi1
      isplitl [Ho]; · iexact Ho
      iexact Hi
    isplitl [HW]
    · iexists W'; isplitr; · ipureintro; exact fun _ _ => Or.inl trivial
      iexact HW
    iexists _; isplitr; · ipureintro; exact View.read_rep _ _
    iexact Hw

/-! ## The run -/

/-- Handed to the region: the rows and both results. -/
def intoΦ (c : Dev nD) : sProp 𝕄 :=
  iprop(bigSep Finset.univ (xhomeP c (XA m c)) ∗ bigSep Finset.univ (oaheadP (F := F) c) ∗ bigSep Finset.univ (iaheadP (F := F) c) ∗ Pipeline.ownSems0 osem c)
/-- Handed back: the rows as they were, both results reading the computed values at each block. -/
def outOfΦ (c : Dev nD) : sProp 𝕄 :=
  iprop((lx c ↦{fullShare} XA m c)
    ∗ (∃ f : Buf (Elt F) (lo c), ⌜∀ b, (oblk b).view.read (Elt F) f = oval c (XA m c) (st0 t0_0) (wst m ρ c t0_0) b⌝ ∗ lo c ↦{fullShare} f)
    ∗ ∃ f : Buf (Elt F) (li c), ⌜∀ b, (iblkM b).view.read (Elt F) f = ival c (XA m c) (st0 t0_0) (wst m ρ c t0_0) b⌝ ∗ li c ↦{fullShare} f)
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m ρ 0 c).arrAt w cfg0.N
/-- The final memory: the rows as launched, block `b` of the scores and of the indices as computed. -/
def QY (c : Dev nD) (s : MemSt nD τ sig (Elt F)) : Prop :=
  s.mem (lx c) = m (lx c) ∧ (∀ b, (oblk b).view.read (Elt F) (s.mem (lo c)) = oval c (XA m c) (st0 t0_0) (wst m ρ c t0_0) b)
    ∧ ∀ b, (iblkM b).view.read (Elt F) (s.mem (li c)) = ival c (XA m c) (st0 t0_0) (wst m ρ c t0_0) b
def QC : PUnit × MemSt nD τ sig (Elt F) → Prop := fun r =>
  ∀ c : Dev nD, (∀ w : Fin cfg0.W, r.2.mem ((cfg0.win w).arr.view.loc (c : Thread nD τ)) = finalA m ρ c w) ∧ QY m ρ c r.2

set_option backward.isDefEq.respectTransparency.types false in
/-- THE RUN: for any float values, from any memory with zero counters, every execution of the program ends, with the
    arguments unchanged, each block of both results as computed, and every counter at zero. -/
theorem run_main : θ_run defs (onTc (τ := τ) (main (F := F))) (s₀ m ρ) (fun r => QC m ρ r ∧ r.2.sem = fun _ => 0) :=
  Pipeline.θ_run_region_kit_quiescent cfgs (dats m ρ) () (0 : Fin 1) launch0 ownSemFacts EP defs₀ 𝒱₀ m ρ main
    (hbody := fun c => (body_obligation m ρ c).loose) (hshare := fun c => (dats m ρ 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := outOfΦ m ρ) (Z := fun _ => iprop(emp))
    (hX := fun c => by
      rw [unscopedRest0_eq, x_eq c (XA m c)]
      unfold intoΦ
      iintro ⟨⟨Hx, Ho, Hi⟩, HS, -, -, -⟩; imodintro
      isplitl [Hx Ho Hi HS]
      · isplitl [Hx]; · iexact Hx
        isplitl [Ho]; · iapply (o_split c _); iexact Ho
        isplitl [Hi]; · iapply (i_split c _); iexact Hi
        iexact HS
      iempintro)
    (hin := fun c => by
      rw [scopedRest0_eq, show (dats m ρ 0 c).Φ 0 = ΦA m c from rfl]
      unfold intoΦ ΦA FREE
      iintro ⟨⟨Hx, Ho, Hi, HS⟩, Hb⟩
      isplitl [Hx]; · iexact Hx
      isplitl [HS Hb]
      · iapply (free_in c)
        isplitl [HS]; · iexact HS
        iexact Hb
      isplitl [Ho]; · iexact Ho
      iexact Hi)
    (hout := fun c => by
      rw [scopedRest0_eq, show (dats m ρ 0 c).Φ (Fin.last cfg0.N) = ΦB m ρ c from rfl]
      unfold ΦB outOfΦ FREE; rw [← x_eq c (XA m c)]
      iintro ⟨Hx, HF, Ho, Hi⟩
      ihave HF' := (free_out c) $$ HF
      icases HF' with ⟨HS, Hb⟩
      isplitl [Hx Ho Hi]
      · isplitl [Hx]; · iexact Hx
        isplitl [Ho]; · iapply (o_join c _ (m (lo c))); iexact Ho
        iapply (i_join c _ (m (li c))); iexact Hi
      isplitl [HS]; · iexact HS
      iexact Hb)
    (QY := QY m ρ)
    (hY := fun c s' => by
      unfold outOfΦ
      iintro ⟨⟨H0, ⟨%fo, %ho, H1⟩, ⟨%fi, %hi, H2⟩⟩, -, HSI⟩
      icombine HSI H0 gives %h0
      icombine HSI H1 gives %h1
      icombine HSI H2 gives %h2
      imodintro
      isplitr
      · ipureintro
        refine ⟨Buf.eq_of_forall_mem_univ h0, ?_, ?_⟩
        · rw [Buf.eq_of_forall_mem_univ h1]; exact ho
        · rw [Buf.eq_of_forall_mem_univ h2]; exact hi
      iexact HSI)
    (hQ := fun _ hh hz => ⟨hh, hz⟩)

theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Launch

end Cert.Proof.Route

end
-- ==== Proof.Frames.lean ====
/-
  The frame claims: each program's run read at its arguments and its counters.
-/
module

public import proofs.«01_k».proof.Proof.Run
public import proofs.«01_k».proof.Proof.Gen.Kernel
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The run of `Cert.KernelIdeal` over any float values: arguments unchanged, counters at zero. -/
theorem kernel_frame {F : FTy → Type} [FloatOps F] (m : (ℓ : Loc Cert.KernelIdeal.nD Cert.KernelIdeal.τ Cert.KernelIdeal.sig) → Buf (Elt F) ℓ) (ρ) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).2.1, ((h.1 c).1 0).trans (Route.finalA_in m ρ c 0 rfl)⟩, h.2⟩) (Route.run_main m ρ)

/-- The two programs' body tables are one, label by label. -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun a => rfl
  | ⟨_ + 1, h⟩ => exact absurd h (Nat.not_lt.2 (Nat.le_add_left _ _))

/-- With the pipelines' regions added they are one still. -/
theorem defs_eq : Cert.Kernel.defs (F := Bits) = Cert.KernelIdeal.defs (F := Bits) := by
  unfold Cert.Kernel.defs Cert.KernelIdeal.defs
  rw [defs₀_eq]; rfl

/-- `Cert.quiescent_Kernel`: that run at the machine's floats. -/
theorem frame_p : Cert.quiescent_Kernel := fun m ρ _ => by
  rw [defs_eq]
  exact kernel_frame (F := Bits) m ρ
/-- `Cert.quiescent_KernelIdeal`: that run at the extended reals. -/
theorem frame_pi : Cert.quiescent_KernelIdeal := fun m ρ _ => kernel_frame (F := Ideal) m ρ
/-- `Cert.quiescent_ReferenceIdeal`: the reference's run read at its arguments; it has no counter. -/
theorem frame_ri : Cert.quiescent_ReferenceIdeal := fun m ρ _ =>
  (θ_run Cert.ReferenceIdeal.defs _ _).mono (fun r h => ⟨fun c => ⟨(h c).2.2.1, (h c).2.2.2⟩, sem_eq_zero_of_no_sems (by decide) r.2⟩)
    (Cert.ReferenceIdeal.Value.run (F := Ideal) m ρ)
/-- `Cert.quiescent_KernelIdeal_pre_finite`: the same run; the precondition is not used. -/
theorem frame_pi_finite [Cert.Pre_finite.Facts] : Cert.quiescent_KernelIdeal_pre_finite := fun m ρ _ => kernel_frame (F := Ideal) m ρ
/-- `Cert.quiescent_ReferenceIdeal_pre_finite`: the same run; the precondition is not used. -/
theorem frame_ri_finite [Cert.Pre_finite.Facts] : Cert.quiescent_ReferenceIdeal_pre_finite := fun m ρ _ => frame_ri m ρ trivial

end Cert.Proof

end
-- ==== Proof.Rows.lean ====
/-
  One row of the router: sixteen logits, the two experts a stable descending sort of the softmax puts first, and what
  the kernel's two max-and-mask passes give for the same logits.
-/
module

public import Idealize.ShloMosaic.PureOps
public import Idealize.ShloMosaic.Lib.SortFacts
public import Idealize.ShloMosaic.Lib.Pointwise

@[expose] public section

noncomputable section

namespace Cert.Proof.Rows

open Idealize.ShloMosaic

/-! ## Folds that one element absorbs -/

/-- A fold whose element at `i` absorbs every other element and the initial value is that element. -/
theorem fold_absorb {α β : Type} [DecidableEq α] [Fintype α] (op : β → β → β) [Std.Commutative op] [Std.Associative op]
    (b : β) (f : α → β) (i : α) (hb : op (f i) b = f i) (h : ∀ k, k ≠ i → op (f i) (f k) = f i) :
    Finset.univ.fold op b f = f i := by
  have hs : ∀ s : Finset α, i ∉ s → op (f i) (s.fold op b f) = f i := by
    intro s
    induction s using Finset.induction_on with
    | empty => intro _; rw [Finset.fold_empty]; exact hb
    | insert a s ha ih =>
      intro hi
      rw [Finset.fold_insert ha, ← Std.Associative.assoc (op := op), h a (fun e => hi (e ▸ Finset.mem_insert_self _ _))]
      exact ih fun h' => hi (Finset.mem_insert_of_mem h')
  rw [← Finset.insert_erase (Finset.mem_univ i), Finset.fold_insert (Finset.notMem_erase _ _)]
  exact hs _ (Finset.notMem_erase _ _)

/-- The greatest of a row, from `⊥`, is the element no other exceeds. -/
theorem fold_max (f : Fin 16 → EReal) (i : Fin 16) (h : ∀ k, f k ≤ f i) : Finset.univ.fold max ⊥ f = f i :=
  fold_absorb max ⊥ f i (max_eq_left bot_le) fun k _ => max_eq_left (h k)

/-- The least of the positions at which `p` holds, 16 standing for "not here", is the first of them. -/
theorem fold_min (p : Fin 16 → Prop) [DecidablePred p] (i : Fin 16) (hi : p i) (h : ∀ k, p k → i ≤ k) :
    Finset.univ.fold IntOp.minsi (2147483647#32) (fun k : Fin 16 => if p k then BitVec.ofNat 32 k.val else 16#32)
      = BitVec.ofNat 32 i.val := by
  have h1 : ∀ i : Fin 16, IntOp.minsi (BitVec.ofNat 32 i.val) 2147483647#32 = BitVec.ofNat 32 i.val := by decide
  have h2 : ∀ i : Fin 16, IntOp.minsi (BitVec.ofNat 32 i.val) 16#32 = BitVec.ofNat 32 i.val := by decide
  have h3 : ∀ i k : Fin 16, i ≤ k → IntOp.minsi (BitVec.ofNat 32 i.val) (BitVec.ofNat 32 k.val) = BitVec.ofNat 32 i.val := by decide
  refine (fold_absorb IntOp.minsi _ (fun k : Fin 16 => if p k then BitVec.ofNat 32 k.val else 16#32) i ?_ fun k _ => ?_).trans (if_pos hi)
  · simp only [if_pos hi]; exact h1 i
  · simp only [if_pos hi]
    by_cases hk : p k
    · rw [if_pos hk]; exact h3 i k (h k hk)
    · rw [if_neg hk]; exact h2 i

/-! ## The stable descending order -/

/-- Position `i` comes before position `k`: its value is greater, or equal and `i` lower. -/
def Ahead (L : Fin 16 → EReal) (i k : Fin 16) : Prop := L k < L i ∨ (L k = L i ∧ i < k)

theorem Ahead.le {L : Fin 16 → EReal} {i k : Fin 16} (h : Ahead L i k) : L k ≤ L i := h.elim le_of_lt fun e => e.1.le
theorem Ahead.first {L : Fin 16 → EReal} {i k : Fin 16} (h : Ahead L i k) (e : L k = L i) : i ≤ k :=
  h.elim (fun hl => absurd e hl.ne) fun hr => hr.2.le

theorem Ahead.trans {L : Fin 16 → EReal} {i j k : Fin 16} (h : Ahead L i j) (h' : Ahead L j k) : Ahead L i k := by
  rcases h with h | ⟨h, hi⟩ <;> rcases h' with h' | ⟨h', hi'⟩
  · exact .inl (h'.trans h)
  · exact .inl (h'.trans_lt h)
  · exact .inl (h'.trans_eq h)
  · exact .inr ⟨h'.trans h, hi.trans hi'⟩

variable {L : Fin 16 → EReal} {B : Fin 16 → Fin 16 → Bool}

/-- Inserting a position lower than all of a sorted list's keeps the list sorted. -/
theorem ahead_insert (hB : ∀ k k', B k k' = true ↔ L k' < L k) (a : Fin 16) (l : List (Fin 16)) (hl : l.Pairwise (Ahead L))
    (ha : ∀ b ∈ l, a < b) : (insertBefore B a l).Pairwise (Ahead L) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore B a l).mem_iff.mp hc) with rfl | hc'
      · exact .inl ((hB _ _).mp h)
      · exact hl.1 c hc'
    · rename_i h
      have hab : Ahead L a b := by
        rcases lt_or_eq_of_le (not_lt.mp fun hlt => h ((hB _ _).mpr hlt)) with hlt | he
        · exact .inl hlt
        · exact .inr ⟨he, ha b List.mem_cons_self⟩
      refine List.pairwise_cons.mpr ⟨fun c hc => ?_, List.pairwise_cons.mpr hl⟩
      rcases List.mem_cons.mp hc with rfl | hc'
      · exact hab
      · exact hab.trans (hl.1 c hc')

/-- The stable sort of an increasing list of positions by greater value is in the order `Ahead`. -/
theorem ahead_sort (hB : ∀ k k', B k k' = true ↔ L k' < L k) (l : List (Fin 16)) (hl : l.Pairwise (· < ·)) :
    (stableSort B l).Pairwise (Ahead L) := by
  induction l with
  | nil => exact List.Pairwise.nil
  | cons a l ih =>
    rw [List.pairwise_cons] at hl
    unfold stableSort
    exact ahead_insert hB a _ (ih hl.2) fun b hb => hl.1 b ((perm_stableSort B l).mem_iff.mp hb)

/-- Of two sorted positions the earlier is ahead. -/
theorem ahead_sorted (hB : ∀ k k', B k k' = true ↔ L k' < L k) (a b : Fin 16) (hab : a < b) :
    Ahead L (sortedFrom B a) (sortedFrom B b) := by
  have hp : ∀ a b : Fin (sortPositions 16 B).length, a < b →
      Ahead L ((sortPositions 16 B).get a) ((sortPositions 16 B).get b) :=
    List.pairwise_iff_get.mp (ahead_sort hB (List.finRange 16) (List.pairwise_lt_finRange 16))
  unfold sortedFrom
  exact hp _ _ (by simp only [Fin.lt_def, Fin.val_cast]; exact hab)

/-- The first sorted position is ahead of every other one. -/
theorem first_ahead (hB : ∀ k k', B k k' = true ↔ L k' < L k) (k : Fin 16) (hk : k ≠ sortedFrom B 0) : Ahead L (sortedFrom B 0) k := by
  obtain ⟨a, rfl⟩ := sortedFrom_surjective B k
  exact ahead_sorted hB 0 a (Fin.pos_of_ne_zero fun e => hk (by rw [e]))

/-- The second sorted position is ahead of every one but the first and itself. -/
theorem second_ahead (hB : ∀ k k', B k k' = true ↔ L k' < L k) (k : Fin 16) (h0 : k ≠ sortedFrom B 0) (h1 : k ≠ sortedFrom B 1) :
    Ahead L (sortedFrom B 1) k := by
  obtain ⟨a, rfl⟩ := sortedFrom_surjective B k
  refine ahead_sorted hB 1 a ?_
  have e0 : a ≠ 0 := fun e => h0 (by rw [e])
  have e1 : a ≠ 1 := fun e => h1 (by rw [e])
  rw [Fin.lt_def]; rw [Ne, Fin.ext_iff] at e0 e1
  show 1 < a.val
  have e0' : a.val ≠ 0 := e0
  have e1' : a.val ≠ 1 := e1
  omega

/-! ## The softmax of a row -/

/-- The row's greatest logit. -/
abbrev top (L : Fin 16 → EReal) : EReal := Finset.univ.fold max ⊥ L
/-- The softmax's denominator. -/
abbrev mass (L : Fin 16 → EReal) : EReal := ∑ k, Ideal.exp (L k - top L)
/-- The softmax. -/
abbrev prob (L : Fin 16 → EReal) (k : Fin 16) : EReal := Ideal.div (Ideal.exp (L k - top L)) (mass L)

/-- Some position's value no other exceeds. -/
theorem exists_top (L : Fin 16 → EReal) : ∃ i, ∀ k, L k ≤ L i := Finite.exists_max L

/-- Of finite logits, a greater one has the greater probability. -/
theorem prob_lt (l : Fin 16 → ℝ) (k k' : Fin 16) : prob (fun k => (l k : EReal)) k' < prob (fun k => (l k : EReal)) k ↔ ((l k' : ℝ) : EReal) < (l k : ℝ) := by
  obtain ⟨i, hi⟩ := exists_top fun k => (l k : EReal)
  have ht : top (fun k => (l k : EReal)) = (l i : ℝ) := fold_max _ i hi
  have he : ∀ k, Ideal.exp ((l k : EReal) - (l i : ℝ)) = (Real.exp (l k - l i) : ℝ) := fun k => by
    rw [← EReal.coe_sub]; rfl
  have hs : mass (fun k => (l k : EReal)) = ((∑ k, Real.exp (l k - l i) : ℝ) : EReal) := by
    unfold mass; rw [ht, Finset.sum_congr rfl fun k _ => he k]
    exact (map_sum (⟨⟨Real.toEReal, rfl⟩, EReal.coe_add⟩ : ℝ →+ EReal) _ _).symm
  have hpos : 0 < ∑ k, Real.exp (l k - l i) := Finset.sum_pos (fun k _ => Real.exp_pos _) ⟨i, Finset.mem_univ i⟩
  have hp : ∀ k, prob (fun k => (l k : EReal)) k = ((Real.exp (l k - l i) / ∑ k, Real.exp (l k - l i) : ℝ) : EReal) := fun k => by
    unfold prob; rw [hs, ht, he]; unfold Ideal.div
    rw [if_neg (by rw [EReal.coe_eq_zero]; exact hpos.ne'), ← EReal.coe_inv, ← EReal.coe_mul, div_eq_mul_inv]
  rw [hp, hp, EReal.coe_lt_coe_iff, EReal.coe_lt_coe_iff, div_lt_div_iff_of_pos_right hpos, Real.exp_lt_exp]
  exact sub_lt_sub_iff_right _

/-! ## The kernel's two passes -/

/-- The row with position `w`'s logit masked. -/
abbrev masked (L : Fin 16 → EReal) (w : BitVec 32) (k : Fin 16) : EReal :=
  Scalar.select (IntOp.cmpi .eq (BitVec.ofNat 32 k.val) w) ⊥ (L k)

/-- The first position at which a row is `m`, as the kernel finds it. -/
abbrev firstAt (L : Fin 16 → EReal) (m : EReal) : BitVec 32 :=
  Finset.univ.fold IntOp.minsi (2147483647#32) fun k : Fin 16 => if L k = m then BitVec.ofNat 32 k.val else 16#32

theorem masked_eq (L : Fin 16 → EReal) (i k : Fin 16) : masked L (BitVec.ofNat 32 i.val) k = if k = i then ⊥ else L k := by
  have h : ∀ k i : Fin 16, IntOp.cmpi .eq (BitVec.ofNat 32 k.val) (BitVec.ofNat 32 i.val) = if k = i then 1#1 else 0#1 := by decide
  unfold masked
  rw [h]
  by_cases e : k = i
  · rw [if_pos e, if_pos e]; rfl
  · rw [if_neg e, if_neg e]; rfl

section
variable (i0 i1 : Fin 16) (h0 : ∀ k, k ≠ i0 → Ahead L i0 k) (h1 : ∀ k, k ≠ i0 → k ≠ i1 → Ahead L i1 k) (hne : i1 ≠ i0) (hb : ⊥ < L i1)
include h0

/-- The first pass's maximum is the logit of the position ahead of all others; -/
theorem top_eq : top L = L i0 :=
  fold_max L i0 fun k => by
    by_cases e : k = i0
    · rw [e]
    · exact (h0 k e).le

/-- and that position is what it finds. -/
theorem firstAt_eq : firstAt L (top L) = BitVec.ofNat 32 i0.val := by
  rw [top_eq i0 h0]
  refine fold_min (fun k => L k = L i0) i0 rfl fun k hk => ?_
  by_cases e : k = i0
  · rw [e]
  · exact (h0 k e).first hk

omit h0
include h1 hne hb

/-- The second pass's maximum is the logit of the position ahead of all the rest; -/
theorem top_masked_eq : top (masked L (BitVec.ofNat 32 i0.val)) = L i1 := by
  have e1 : masked L (BitVec.ofNat 32 i0.val) i1 = L i1 := by rw [masked_eq, if_neg hne]
  rw [← e1]
  refine fold_max _ i1 fun k => ?_
  rw [e1, masked_eq]
  by_cases e : k = i0
  · rw [if_pos e]; exact bot_le
  · rw [if_neg e]
    by_cases e' : k = i1
    · rw [e']
    · exact (h1 k e e').le

/-- and that position is what it finds. -/
theorem firstAt_masked_eq : firstAt (masked L (BitVec.ofNat 32 i0.val)) (L i1) = BitVec.ofNat 32 i1.val := by
  refine fold_min (fun k => masked L (BitVec.ofNat 32 i0.val) k = L i1) i1 (by rw [masked_eq, if_neg hne]) fun k hk => ?_
  rw [masked_eq] at hk
  by_cases e : k = i0
  · rw [if_pos e] at hk; exact absurd hk hb.ne
  · rw [if_neg e] at hk
    by_cases e' : k = i1
    · rw [e']
    · exact (h1 k e e').first hk
end

/-! ## A row of the kernel against a row of the reference -/

/-- The kernel's scores of a row. -/
abbrev kScore (L : Fin 16 → EReal) (z : Fin 2) : EReal :=
  if z.val < 1 then Ideal.div 1 (mass L) else Ideal.div (Ideal.exp (top (masked L (firstAt L (top L))) - top L)) (mass L)
/-- The kernel's indices of a row. -/
abbrev kIndex (L : Fin 16 → EReal) (z : Fin 2) : BitVec 32 :=
  if z.val < 1 then firstAt L (top L) else firstAt (masked L (firstAt L (top L))) (top (masked L (firstAt L (top L))))
/-- The position a stable descending sort of the softmax puts at `z`. -/
abbrev rankOf (L : Fin 16 → EReal) (z : Fin 2) : Fin 16 :=
  sortedFrom (fun k k' => Ideal.cmpTotal .gt (prob L k) (prob L k') == 1#1) (z.castLE (by decide))

theorem gt_iff (l : Fin 16 → ℝ) (k k' : Fin 16) :
    (Ideal.cmpTotal .gt (prob (fun k => (l k : EReal)) k) (prob (fun k => (l k : EReal)) k') == 1#1) = true ↔ ((l k' : ℝ) : EReal) < (l k : ℝ) := by
  rw [← prob_lt l k k', beq_iff_eq]
  show BitVec.ofBool (decide _) = 1#1 ↔ _
  by_cases h : prob (fun k => (l k : EReal)) k' < prob (fun k => (l k : EReal)) k
  · simp [h]
  · simp [h]

/-- Of finite logits, the kernel's two indices are the positions of the two greatest probabilities in stable order. -/
theorem index_eq (l : Fin 16 → ℝ) (z : Fin 2) : kIndex (fun k => (l k : EReal)) z = BitVec.ofNat 32 (rankOf (fun k => (l k : EReal)) z).val := by
  have hB := gt_iff l
  have h0 := first_ahead (L := fun k => (l k : EReal)) hB
  have h1 := second_ahead (L := fun k => (l k : EReal)) hB
  have hne : rankOf (fun k => (l k : EReal)) 1 ≠ rankOf (fun k => (l k : EReal)) 0 := fun e =>
    absurd (sortedFrom_injective _ e) (by decide)
  match z with
  | 0 => exact firstAt_eq _ h0
  | 1 =>
    unfold kIndex
    rw [if_neg (by decide), firstAt_eq _ h0, top_masked_eq _ _ h1 hne (EReal.bot_lt_coe _)]
    exact firstAt_masked_eq _ _ h1 hne (EReal.bot_lt_coe _)

/-- Of finite logits, the kernel's two scores are the two greatest probabilities. -/
theorem score_eq (l : Fin 16 → ℝ) (z : Fin 2) : kScore (fun k => (l k : EReal)) z = prob (fun k => (l k : EReal)) (rankOf (fun k => (l k : EReal)) z) := by
  have hB := gt_iff l
  have h0 := first_ahead (L := fun k => (l k : EReal)) hB
  have h1 := second_ahead (L := fun k => (l k : EReal)) hB
  have hne : rankOf (fun k => (l k : EReal)) 1 ≠ rankOf (fun k => (l k : EReal)) 0 := fun e =>
    absurd (sortedFrom_injective _ e) (by decide)
  match z with
  | 0 =>
    have ht : top (fun k => (l k : EReal)) = (l (rankOf (fun k => (l k : EReal)) 0) : ℝ) := top_eq _ h0
    unfold kScore prob
    rw [if_pos (by decide)]
    have : Ideal.exp (((l (rankOf (fun k => (l k : EReal)) 0) : ℝ) : EReal) - top (fun k => (l k : EReal))) = 1 := by
      rw [ht, ← EReal.coe_sub, sub_self]
      show ((Real.exp 0 : ℝ) : EReal) = 1
      rw [Real.exp_zero]; rfl
    rw [this]
  | 1 =>
    unfold kScore prob
    rw [if_neg (by decide), firstAt_eq _ h0, top_masked_eq _ _ h1 hne (EReal.bot_lt_coe _)]
    rfl

end Cert.Proof.Rows

end
-- ==== Proof.Values.lean ====
/-
  Both results as values: the kernel's blocks read row by row, the reference's sorted softmax read row by row, and
  the two arrays equal when every entry of the arguments is real.
-/
module

public import proofs.«01_k».proof.Proof.Run
public import proofs.«01_k».proof.Proof.Rows
public import proofs.«01_k».proof.Pre_finite
public import proofs.«01_k».proof.Proof.Gen.ReferenceIdeal.Run
public import Idealize.ShloMosaic.Lib.Pointwise
public import Idealize.ShloMosaic.Lib.ReduceAll

@[expose] public section

noncomputable section

open Idealize.ShloMosaic Idealize.ShloMosaic.TcCoe Idealize.SL.Sem
open Idealize.ShloMosaic.Pointwise
namespace Cert.Proof.Route
section
open Cert.KernelIdeal Cert.KernelIdeal.Gen

/-- The word 0xFF800000 is −∞. -/
theorem neg_inf : Ideal.ofBits .f32 4286578688#32 = ⊥ := by simp [Ideal.ofBits, Ideal.ieee]
/-- The word 0x7F800000 is +∞. -/
theorem pos_inf : Ideal.ofBits .f32 2139095040#32 = ⊤ := by simp [Ideal.ofBits, Ideal.ieee]

variable (L : FVec Ideal S512x16 .f32) (r : Fin 512)
/-- The row maximum the kernel takes is the largest of the row. -/
theorem rowmax_at (z : Fin 1) : rowmax L (ix2 r z) = Rows.top fun k => L (ix2 r k) := by
  pointwise [rowmax]; rw [neg_inf]
/-- The exponential at a position: of the logit less the row's largest. -/
theorem expo_at (k : Fin 16) : expo L (ix2 r k) = Ideal.exp (L (ix2 r k) - Rows.top fun k => L (ix2 r k)) := by
  pointwise [expo]; rw [rowmax_at]
/-- The first index a row gets: the first position of its largest logit. -/
theorem pay4_at (z : Fin 1) : k0_pay4 L (rowmax L) (ix2 r z) = Rows.firstAt (fun k => L (ix2 r k)) (Rows.top fun k => L (ix2 r k)) := by
  pointwise [k0_pay4]; rw [rowmax_at]
/-- The row for the second pass: the logit at the first index replaced by −∞. -/
theorem pay5_at (k : Fin 16) : k0_pay5 L (rowmax L) (ix2 r k)
    = Rows.masked (fun k => L (ix2 r k)) (Rows.firstAt (fun k => L (ix2 r k)) (Rows.top fun k => L (ix2 r k))) k := by
  pointwise [k0_pay5]; rw [pay4_at, neg_inf]
/-- The second pass's largest. -/
theorem pay6_at (z : Fin 1) : k0_pay6 L (rowmax L) (ix2 r z)
    = Rows.top (Rows.masked (fun k => L (ix2 r k)) (Rows.firstAt (fun k => L (ix2 r k)) (Rows.top fun k => L (ix2 r k)))) := by
  pointwise [k0_pay6]; rw [neg_inf]; simp only [pay5_at]
/-- A block's scores, row by row. -/
theorem scores_at (z : Fin 2) : scoresOf L (ix2 r z) = Rows.kScore (fun k => L (ix2 r k)) z := by
  unfold Rows.kScore
  pointwise [scoresOf, k0_pay7]
  by_cases h : z.val < 1
  · rw [dif_pos h, if_pos h]
    simp only [expo_at]
  · rw [dif_neg h, if_neg h]
    simp only [expo_at, pay6_at, rowmax_at]
/-- A block's indices, row by row. -/
theorem indices_at (z : Fin 2) : indicesOf (F := Ideal) L (ix2 r z) = Rows.kIndex (fun k => L (ix2 r k)) z := by
  unfold Rows.kIndex
  pointwise [indicesOf, k0_pay8]
  by_cases h : z.val < 1
  · rw [dif_pos h, if_pos h]
    exact pay4_at L r _
  · rw [dif_neg h, if_neg h]
    simp only [pay5_at, pay6_at]
/-- A block's logits: row times column, summed. -/
theorem logits_at (x : FVec Ideal S512x2048 .f32) (w : Vec Ideal S2048x16 .f32) (k : Fin 16) :
    logitsOf x w (ix2 r k) = ∑ j : Fin 2048, x (ix2 r j) * w (ix2 j k) := by
  pointwise [logitsOf]
end

section
open Cert.ReferenceIdeal Cert.ReferenceIdeal.Gen
variable (X : FVec Ideal S16384x2048 .f32) (W : FVec Ideal S2048x16 .f32)
/-- The reference's logits. -/
def refLogits : FVec Ideal S16384x16 .f32 := Host.dotGeneral (F := Ideal) dot_S16384x2048_S2048x16_S16384x16_1_0_0_1_n_n none X W
/-- The reference's softmax of its logits. -/
def refProbs (D : FVec Ideal S16384x16 .f32) : FVec Ideal S16384x16 .f32 :=
  Host.divf (Host.exp (subf D (broadcastInDim S16384x16 ![0, 1] bcast_S16384x1_S16384x16_0_1 (broadcastInDim S16384x1 ![0] bcast_S16384_S16384x1_0 (maximumf (broadcastInDim S16384 ![] bcast_S_S16384 (constant S_ .f32 0xFF800000#32)) (Host.reduce FloatOps.maximumf D (constant S_ .f32 0xFF800000#32) reducesTo_S16384x16_S16384_d1 h_S_)))))) (broadcastInDim S16384x16 ![0, 1] bcast_S16384x1_S16384x16_0_1 (broadcastInDim S16384x1 ![0] bcast_S16384_S16384x1_0 (Host.reduceAdd (Host.exp (subf D (broadcastInDim S16384x16 ![0, 1] bcast_S16384x1_S16384x16_0_1 (broadcastInDim S16384x1 ![0] bcast_S16384_S16384x1_0 (maximumf (broadcastInDim S16384 ![] bcast_S_S16384 (constant S_ .f32 0xFF800000#32)) (Host.reduce FloatOps.maximumf D (constant S_ .f32 0xFF800000#32) reducesTo_S16384x16_S16384_d1 h_S_)))))) (constant S_ .f32 0x00000000#32) reducesTo_S16384x16_S16384_d1 h_S_)))
/-- The reference's logits: row times column, summed. -/
theorem refLogits_at (r : Fin 16384) (k : Fin 16) : refLogits X W (ix2 r k) = ∑ j : Fin 2048, X (ix2 r j) * W (ix2 j k) := by
  pointwise [refLogits]
/-- The reference's softmax, read in a row. -/
theorem refProbs_at (D) (r : Fin 16384) (k : Fin 16) : refProbs D (ix2 r k) = Rows.prob (fun k => D (ix2 r k)) k := by
  pointwise [refProbs]
  simp only [neg_inf, max_bot_left]
/-- Moving along a row keeps the row and takes the position given. -/
theorem along_eq (r : Fin 16384) (k k' : Fin 16) : Shape.Idx.along (s := S16384x16) (ix2 r k) (1 : Fin 2) k' = ix2 r k' := by
  funext a
  match a with
  | ⟨0, _⟩ => rfl
  | ⟨1, _⟩ => rfl
/-- The comparison a row is sorted by reads that row alone. -/
theorem before_eq (p : FVec Ideal S16384x16 .f32) (r : Fin 16384) (z : Fin 16) :
    (fun k k' : Fin 16 => Ideal.cmpTotal .gt (p (Shape.Idx.along (s := S16384x16) (ix2 r z) (1 : Fin 2) k)) (p (Shape.Idx.along (s := S16384x16) (ix2 r z) (1 : Fin 2) k')) == 1#1)
      = fun k k' => Ideal.cmpTotal .gt (p (ix2 r k)) (p (ix2 r k')) == 1#1 :=
  funext fun k => funext fun k' => congrArg₂ (fun a b => Ideal.cmpTotal .gt (p a) (p b) == 1#1) (along_eq r z k) (along_eq r z k')
/-- The values the reference returns: the row read at its sorted positions. -/
theorem topK_fst (p : FVec Ideal S16384x16 .f32) (r : Fin 16384) (z : Fin 2) :
   (Host.topK S16384x2 1 (FloatOps.cmpfTotal (F := Ideal) .gt) p sliceFits_S16384x16_S16384x2).1 (ix2 r z)
     = p (ix2 r (sortedFrom (fun k k' => Ideal.cmpTotal .gt (p (ix2 r k)) (p (ix2 r k')) == 1#1) (z.castLE (by decide)))) := by
  pointwise [Host.topK]
  refine (show _ = p (Shape.Idx.along (s := S16384x16) (ix2 r (z.castLE (by decide))) (1 : Fin 2) (sortedFrom (fun k k' : Fin 16 => Ideal.cmpTotal .gt (p (Shape.Idx.along (s := S16384x16) (ix2 r (z.castLE (by decide))) (1 : Fin 2) k)) (p (Shape.Idx.along (s := S16384x16) (ix2 r (z.castLE (by decide))) (1 : Fin 2) k')) == 1#1) (z.castLE (by decide)))) from rfl).trans ?_
  exact (congrArg p (along_eq r _ _)).trans (congrArg (fun B => p (ix2 r (sortedFrom B (z.castLE (by decide))))) (before_eq p r _))
/-- An array carried along by the sort, read at its sorted positions. -/
theorem sort2_snd (p : FVec Ideal S16384x16 .f32) (y : S16384x16.Idx → BitVec 32) (r : Fin 16384) (z : Fin 16) :
    (Host.sort2 S16384x16 1 (fun l r => FloatOps.cmpfTotal (F := Ideal) (φ := .f32) .gt l.1 r.1) p y).2 (ix2 r z)
     = y (ix2 r (sortedFrom (fun k k' => Ideal.cmpTotal .gt (p (ix2 r k)) (p (ix2 r k')) == 1#1) z)) := by
  refine (show _ = y (Shape.Idx.along (s := S16384x16) (ix2 r z) (1 : Fin 2) (sortedFrom (fun k k' : Fin 16 => Ideal.cmpTotal .gt (p (Shape.Idx.along (s := S16384x16) (ix2 r z) (1 : Fin 2) k)) (p (Shape.Idx.along (s := S16384x16) (ix2 r z) (1 : Fin 2) k')) == 1#1) z)) from rfl).trans ?_
  exact (congrArg y (along_eq r _ _)).trans (congrArg (fun B => y (ix2 r (sortedFrom B z))) (before_eq p r _))
/-- The column number, read at a column. -/
theorem col_at (r : Fin 16384) (K : Fin 16) : (fun i : S16384x16.Idx => BitVec.ofNat 32 (i 1).val) (ix2 r K) = BitVec.ofNat 32 K.val := rfl
/-- The indices the reference returns: the sorted positions themselves. -/
theorem topK_snd (p : FVec Ideal S16384x16 .f32) (r : Fin 16384) (z : Fin 2) :
   (Host.topK S16384x2 1 (FloatOps.cmpfTotal (F := Ideal) .gt) p sliceFits_S16384x16_S16384x2).2 (ix2 r z)
     = BitVec.ofNat 32 (sortedFrom (fun k k' => Ideal.cmpTotal .gt (p (ix2 r k)) (p (ix2 r k')) == 1#1) (z.castLE (by decide))).val := by
  pointwise [Host.topK]
  exact (sort2_snd p _ r (z.castLE (by decide))).trans (col_at r _)
end
section
open Cert.KernelIdeal Cert.KernelIdeal.Gen
/-- The precondition read: every entry of both arguments is a real number. -/
theorem finite_entries [Cert.Pre_finite.Facts] (X : FVec Ideal S16384x2048 .f32) (W : FVec Ideal S2048x16 .f32) (h : Cert.Pre_finite.fn (F := Ideal) X W = fun _ => 1#1) :
    (∀ i, ∃ a : ℝ, X i = a) ∧ ∀ i, ∃ a : ℝ, W i = a := by
  have h0 := congrFun h ix0
  unfold Cert.Pre_finite.fn at h0
  dsimp only at h0
  obtain ⟨ha, hb⟩ := IntOp.andi_eq_one.mp h0
  have : Subsingleton Cert.Pre_finite.S_.Idx := ⟨fun a b => funext fun k => k.elim0⟩
  have key : ∀ a : EReal, IntOp.andi (BitVec.ofBool (decide (⊥ < a))) (BitVec.ofBool (decide (a < ⊤))) = 1#1 → ∃ r : ℝ, a = r := by
    intro a h
    obtain ⟨h1, h2⟩ := IntOp.andi_eq_one.mp h
    induction a with
    | bot => simp at h1
    | top => simp at h2
    | coe r => exact ⟨r, rfl⟩
  constructor
  · intro i
    refine key _ ?_
    have := Host.reduce_andi_all _ _ _ _ _ ha i
    rw [← this, ← neg_inf, ← pos_inf]; rfl
  · intro i
    refine key _ ?_
    have := Host.reduce_andi_all _ _ _ _ _ hb i
    rw [← this, ← neg_inf, ← pos_inf]; rfl
/-- A block of rows of the tokens, read: block `b`'s row `r` is row `512 b + r`. -/
theorem xread (F : FTy → Type) (X : xM.view.ty.Contents (Elt F)) (b : Fin 32) (r : Fin 512) (k : Fin 2048) :
    (xblk b).view.read (Elt F) X (ix2 r k) = X (ix2 (⟨512 * b.val + r.val, by omega⟩ : Fin 16384) k) := by
  show X ((xblk b).view.emb (ix2 r k)) = _
  refine congrArg X (funext fun a => ?_)
  match a with
  | ⟨0, _⟩ => exact Fin.ext (by show 512 * b.val + 1 * r.val = 512 * b.val + r.val; omega)
  | ⟨1, _⟩ => exact Fin.ext (by show 0 + 1 * k.val = k.val; omega)
/-- The weights the body loads are the second argument. -/
theorem wread {F : FTy → Type} [FloatOps F] (m ρ c) : wv c (st0 t0_0) (wst (F := F) m ρ c t0_0) = m ((c.tc : Thread nD τ).loc main_arg1) := by
  unfold wv wst
  rw [View.readAt_eq_ld, View.read_rep]
  refine (View.ld_unit_zero (S := S2048x16) (funext fun a => by match a with | ⟨0, _⟩ => rfl | ⟨1, _⟩ => rfl) _ _).trans ?_
  unfold wblk
  funext y
  show m (c.tc.loc main_arg1) (((cfg0.win 0).blk t0_0).view.emb y) = m (c.tc.loc main_arg1) y
  refine congrArg _ (funext fun a => ?_)
  match a with
  | ⟨0, _⟩ => exact Fin.ext (by show 0 * 2048 + 1 * (y 0).val = (y 0).val; omega)
  | ⟨1, _⟩ => exact Fin.ext (by show 0 * 16 + 1 * (y 1).val = (y 1).val; omega)
end

/-! ## The two arrays -/

section
open Cert.KernelIdeal Cert.KernelIdeal.Gen

/-- A block of the scores, read. -/
theorem oread (F : FTy → Type) (f : oM.view.ty.Contents (Elt F)) (b : Fin 32) (r : Fin 512) (z : Fin 2) :
    (oblk b).view.read (Elt F) f (ix2 r z) = f (ix2 (⟨512 * b.val + r.val, by omega⟩ : Fin 16384) z) := by
  show f ((oblk b).view.emb (ix2 r z)) = _
  refine congrArg f (funext fun a => ?_)
  match a with
  | ⟨0, _⟩ => exact Fin.ext (by show 512 * b.val + 1 * r.val = 512 * b.val + r.val; omega)
  | ⟨1, _⟩ => exact Fin.ext (by show 0 + 1 * z.val = z.val; omega)
/-- A block of the indices, read. -/
theorem iread (F : FTy → Type) (f : iM.view.ty.Contents (Elt F)) (b : Fin 32) (r : Fin 512) (z : Fin 2) :
    (iblkM b).view.read (Elt F) f (ix2 r z) = f (ix2 (⟨512 * b.val + r.val, by omega⟩ : Fin 16384) z) := by
  show f ((iblkM b).view.emb (ix2 r z)) = _
  refine congrArg f (funext fun a => ?_)
  match a with
  | ⟨0, _⟩ => exact Fin.ext (by show 512 * b.val + 1 * r.val = 512 * b.val + r.val; omega)
  | ⟨1, _⟩ => exact Fin.ext (by show 0 + 1 * z.val = z.val; omega)

/-- Two results that agree at each row of each block are equal. -/
theorem ext_blocks {α : Type} (f g : S16384x2.Idx → α)
    (h : ∀ (b : Fin 32) (r : Fin 512) (z : Fin 2), f (ix2 (⟨512 * b.val + r.val, by omega⟩ : Fin 16384) z) = g (ix2 (⟨512 * b.val + r.val, by omega⟩ : Fin 16384) z)) : f = g := by
  funext i
  have hi : (i 0).val < 16384 := (i 0).isLt
  have e : i = ix2 (⟨512 * ((i 0).val / 512) + (i 0).val % 512, by omega⟩ : Fin 16384) (i 1) := by
    funext a
    match a with
    | ⟨0, _⟩ => exact Fin.ext (by show (i 0).val = 512 * ((i 0).val / 512) + (i 0).val % 512; omega)
    | ⟨1, _⟩ => rfl
  rw [e]
  exact h ⟨(i 0).val / 512, by omega⟩ ⟨(i 0).val % 512, by omega⟩ (i 1)

/-- A sum of products of reals is a real. -/
theorem real_logits (X : FVec Ideal S16384x2048 .f32) (W : FVec Ideal S2048x16 .f32) (hX : ∀ i, ∃ a : ℝ, X i = a) (hW : ∀ i, ∃ a : ℝ, W i = a)
    (r : Fin 16384) (k : Fin 16) : ∃ a : ℝ, refLogits X W (ix2 r k) = a := by
  rw [refLogits_at]
  refine Finset.sum_induction _ (fun y : EReal => ∃ a : ℝ, y = a) ?_ ⟨0, rfl⟩ fun j _ => ?_
  · rintro _ _ ⟨a, rfl⟩ ⟨b, rfl⟩
    exact ⟨a + b, (EReal.coe_add a b).symm⟩
  · obtain ⟨a, ha⟩ := hX (ix2 r j)
    obtain ⟨b, hb⟩ := hW (ix2 j k)
    exact ⟨a * b, by rw [ha, hb]; exact (EReal.coe_mul a b).symm⟩

section
variable (D : FVec Ideal Cert.ReferenceIdeal.S16384x16 .f32) (l : Fin 16384 → Fin 16 → ℝ) (hl : ∀ r k, D (ix2 r k) = l r k)
include hl
/-- A row of the reference's softmax, of real logits. -/
theorem probs_row (r : Fin 16384) : (fun k => refProbs D (ix2 r k)) = fun k => Rows.prob (fun k => (l r k : EReal)) k :=
  funext fun k => (refProbs_at D r k).trans (congrArg (fun L => Rows.prob L k) (funext fun k => hl r k))
/-- The reference's values in a row of real logits. -/
theorem values_row (r : Fin 16384) (z : Fin 2) :
    (Host.topK Cert.ReferenceIdeal.S16384x2 1 (FloatOps.cmpfTotal (F := Ideal) .gt) (refProbs D) Cert.ReferenceIdeal.Gen.sliceFits_S16384x16_S16384x2).1 (ix2 r z)
      = Rows.kScore (fun k => (l r k : EReal)) z :=
  (topK_fst (refProbs D) r z).trans ((congrArg (fun q : Fin 16 → EReal => q (sortedFrom (fun k k' => Ideal.cmpTotal .gt (q k) (q k') == 1#1) (z.castLE (by decide)))) (probs_row D l hl r)).trans
    (Rows.score_eq (l r) z).symm)
/-- The reference's indices in a row of real logits. -/
theorem positions_row (r : Fin 16384) (z : Fin 2) :
    (Host.topK Cert.ReferenceIdeal.S16384x2 1 (FloatOps.cmpfTotal (F := Ideal) .gt) (refProbs D) Cert.ReferenceIdeal.Gen.sliceFits_S16384x16_S16384x2).2 (ix2 r z)
      = Rows.kIndex (fun k => (l r k : EReal)) z :=
  (topK_snd (refProbs D) r z).trans ((congrArg (fun q : Fin 16 → EReal => BitVec.ofNat 32 (sortedFrom (fun k k' => Ideal.cmpTotal .gt (q k) (q k') == 1#1) (z.castLE (by decide))).val) (probs_row D l hl r)).trans
    (Rows.index_eq (l r) z).symm)
end

variable (m : (ℓ : Loc nD τ sig) → Buf (Elt Ideal) ℓ) (ρ : Dev nD → PrngReg) (c : Dev nD)

/-- The reference's logits of the arguments of a memory. -/
abbrev DA : FVec Ideal Cert.ReferenceIdeal.S16384x16 .f32 := refLogits (m (c.tc.loc main_arg0)) (m (c.tc.loc main_arg1))

/-- Block `b`'s logits are the reference's, at the block's rows. -/
theorem lgs_at (b : Fin 32) (r : Fin 512) (k : Fin 16) :
    lgs c (XA m c) (st0 t0_0) (wst m ρ c t0_0) b (ix2 r k) = DA m c (ix2 (⟨512 * b.val + r.val, by omega⟩ : Fin 16384) k) := by
  unfold lgs
  rw [wread]
  refine (logits_at r _ _ k).trans ((Finset.sum_congr rfl fun j _ => ?_).trans (refLogits_at _ _ _ k).symm)
  exact congrArg (· * _) (xread Ideal _ b r j)

variable (l : Fin 16384 → Fin 16 → ℝ) (hl : ∀ r k, DA m c (ix2 r k) = l r k)
include hl
/-- A row of block `b`'s logits, of real logits. -/
theorem lgs_row (b : Fin 32) (r : Fin 512) :
    (fun k => lgs c (XA m c) (st0 t0_0) (wst m ρ c t0_0) b (ix2 r k)) = fun k => (l ⟨512 * b.val + r.val, by omega⟩ k : EReal) :=
  funext fun k => (lgs_at m ρ c b r k).trans (hl _ k)
/-- The kernel's scores are the reference's values. -/
theorem scores_whole (f : Buf (Elt Ideal) (lo c)) (h : ∀ b, (oblk b).view.read (Elt Ideal) f = oval c (XA m c) (st0 t0_0) (wst m ρ c t0_0) b) :
    f = (Host.topK Cert.ReferenceIdeal.S16384x2 1 (FloatOps.cmpfTotal (F := Ideal) .gt) (refProbs (DA m c)) Cert.ReferenceIdeal.Gen.sliceFits_S16384x16_S16384x2).1 :=
  ext_blocks _ _ fun b r z => (oread Ideal f b r z).symm.trans ((congrFun (h b) (ix2 r z)).trans ((scores_at _ r z).trans
    ((congrArg (fun L => Rows.kScore L z) (lgs_row m ρ c l hl b r)).trans (values_row (DA m c) l hl _ z).symm)))
/-- The kernel's indices are the reference's. -/
theorem indices_whole (f : Buf (Elt Ideal) (li c)) (h : ∀ b, (iblkM b).view.read (Elt Ideal) f = ival c (XA m c) (st0 t0_0) (wst m ρ c t0_0) b) :
    f = (Host.topK Cert.ReferenceIdeal.S16384x2 1 (FloatOps.cmpfTotal (F := Ideal) .gt) (refProbs (DA m c)) Cert.ReferenceIdeal.Gen.sliceFits_S16384x16_S16384x2).2 :=
  ext_blocks _ _ fun b r z => (iread Ideal f b r z).symm.trans ((congrFun (h b) (ix2 r z)).trans ((indices_at _ r z).trans
    ((congrArg (fun L => Rows.kIndex L z) (lgs_row m ρ c l hl b r)).trans (positions_row (DA m c) l hl _ z).symm)))
end

end Cert.Proof.Route

end

end
-- ==== Proof.Equal.lean ====
/-
  The value claim: from arguments of real entries the kernel's two results are the reference's two results.
-/
module

public import proofs.«01_k».proof.Proof.Values
public import proofs.«01_k».proof.Proof.Frames

@[expose] public section

noncomputable section

namespace Cert.Proof

open Idealize.ShloMosaic Idealize.ShloMosaic.TcCoe Idealize.SL.Sem

/-- The reference's values of the arguments of a memory. -/
abbrev outV (X : FVec Ideal Cert.ReferenceIdeal.S16384x2048 .f32) (W : FVec Ideal Cert.ReferenceIdeal.S2048x16 .f32) : FVec Ideal Cert.ReferenceIdeal.S16384x2 .f32 :=
  (Host.topK Cert.ReferenceIdeal.S16384x2 1 (FloatOps.cmpfTotal (F := Ideal) .gt) (Route.refProbs (Route.refLogits X W)) Cert.ReferenceIdeal.Gen.sliceFits_S16384x16_S16384x2).1
/-- The reference's indices of the arguments of a memory. -/
abbrev outI (X : FVec Ideal Cert.ReferenceIdeal.S16384x2048 .f32) (W : FVec Ideal Cert.ReferenceIdeal.S2048x16 .f32) : IVec Cert.ReferenceIdeal.S16384x2 32 :=
  (Host.topK Cert.ReferenceIdeal.S16384x2 1 (FloatOps.cmpfTotal (F := Ideal) .gt) (Route.refProbs (Route.refLogits X W)) Cert.ReferenceIdeal.Gen.sliceFits_S16384x16_S16384x2).2

/-- The reference's run, its results named. -/
theorem reference_run (m : (ℓ : Loc Cert.ReferenceIdeal.nD Cert.ReferenceIdeal.τ Cert.ReferenceIdeal.sig) → Buf (Elt Ideal) ℓ) (ρ) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_values)
        = outV (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_indices)
        = outI (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  Cert.ReferenceIdeal.Value.run (F := Ideal) m ρ

/-- The kernel's run from arguments of real entries, its results named. -/
theorem kernel_run [Cert.Pre_finite.Facts] (m : (ℓ : Loc Cert.KernelIdeal.nD Cert.KernelIdeal.τ Cert.KernelIdeal.sig) → Buf (Elt Ideal) ℓ) (ρ) (hp : Cert.Pre_KernelIdeal_finite m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0)
        = outV (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v0_1)
        = outI (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run Cert.KernelIdeal.defs _ _).mono (fun r h c => ?_) (Route.run_main m ρ)
  obtain ⟨hw, hx, ho, hi⟩ := h.1 c
  obtain ⟨hX, hW⟩ := Route.finite_entries _ _ (hp c)
  choose l hl using Route.real_logits _ _ hX hW
  exact ⟨Route.scores_whole m ρ c l hl _ ho, Route.indices_whole m ρ c l hl _ hi, hx, (hw 0).trans (Route.finalA_in m ρ c 0 rfl)⟩

/-- `Cert.algebraic_KernelIdeal_ReferenceIdeal_pre_finite`: both runs end with the same two arrays. -/
theorem equal [Cert.Pre_finite.Facts] : Cert.algebraic_KernelIdeal_ReferenceIdeal_pre_finite := by
  intro m g m' g' hp ha
  refine ⟨_, _, kernel_run m g hp, (θ_run Cert.ReferenceIdeal.defs _ _).mono (fun r h c => ?_) (reference_run m' g')⟩
  obtain ⟨hv, hi, h0, h1⟩ := h c
  obtain ⟨e0, e1⟩ := ha c
  exact ⟨hv.trans (congrArg₂ outV e0 e1), hi.trans (congrArg₂ outI e0 e1), h0, h1⟩

/-- The precondition's shape conditions. -/
theorem finite_facts : Cert.Pre_finite.Facts where
  bcast_S_S16384x2048 := by decide
  reducesTo_S16384x2048_S_d0_1 := by decide
  h_S_ := by decide
  bcast_S_S2048x16 := by decide
  reducesTo_S2048x16_S_d0_1 := by decide

end Cert.Proof

end
-- ==== Proof.lean ====
/-
  The certificate's claims, each proved in the modules imported here.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

noncomputable section

namespace Cert.Proof

/-- Everything claimed. -/
theorem claim : Cert.Claim :=
  have := finite_facts
  ⟨Cert.Kernel.Gen.facts, Cert.KernelIdeal.Gen.facts, Cert.ReferenceIdeal.Gen.facts, finite_facts,
    frame_p, frame_pi, frame_pi_finite, frame_ri, frame_ri_finite, trivial, equal⟩

end Cert.Proof

end
